-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x4096 : Shape := ⟨2, ![8192, 4096]⟩
abbrev S512x4096 : Shape := ⟨2, ![512, 4096]⟩
abbrev S4x512x512 : Shape := ⟨3, ![4, 512, 512]⟩
abbrev S16x512x512 : Shape := ⟨3, ![16, 512, 512]⟩
abbrev S2x512x2048 : Shape := ⟨3, ![2, 512, 2048]⟩
abbrev S16 : Shape := ⟨1, ![16]⟩
abbrev S4 : Shape := ⟨1, ![4]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512x4096, .f32⟩
  | .local _ .vmem, ⟨0, _⟩ => ⟨S512x4096, .f32⟩
  | .local _ .vmem, ⟨1, _⟩ => ⟨S4x512x512, .f32⟩
  | .local _ .vmem, ⟨2, _⟩ => ⟨S16x512x512, .bf16⟩
  | .local _ .vmem, ⟨3, _⟩ => ⟨S16x512x512, .bf16⟩
  | .local _ .vmem, ⟨4, _⟩ => ⟨S2x512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c16_i32_0 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.addi v2 c16_i32_0
  let c16_i32_1 : BitVec 32 := 16#32
  let v4 : BitVec 32 := Scalar.remsi v3 c16_i32_1
  let c512_i32 : BitVec 32 := 512#32
  let v5 : BitVec 32 := Scalar.muli v4 c512_i32
  let c0_i32_5 : BitVec 32 := 0#32
  ![v5.toNat, 0]
def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v12 : BitVec 32 := Scalar.addi v2 c1_i32_6
  let c16_i32_7 : BitVec 32 := 16#32
  let v13 : BitVec 32 := Scalar.remsi v12 c16_i32_7
  let c1_i32_9 : BitVec 32 := 1#32
  let v14 : BitVec 32 := Scalar.muli v13 c1_i32_9
  let v15 : BitVec 32 := Scalar.addi c0_i32_10 v14
  v15.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v16 : BitVec 32 := Scalar.addi v2 c2_i32
  let c16_i32_11 : BitVec 32 := 16#32
  let v17 : BitVec 32 := Scalar.remsi v16 c16_i32_11
  let c1_i32_13 : BitVec 32 := 1#32
  let v18 : BitVec 32 := Scalar.muli v17 c1_i32_13
  let v19 : BitVec 32 := Scalar.addi c0_i32_14 v18
  v19.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v20 : BitVec 32 := Scalar.addi v2 c3_i32
  let c16_i32_15 : BitVec 32 := 16#32
  let v21 : BitVec 32 := Scalar.remsi v20 c16_i32_15
  let c1_i32_17 : BitVec 32 := 1#32
  let v22 : BitVec 32 := Scalar.muli v21 c1_i32_17
  let v23 : BitVec 32 := Scalar.addi c0_i32_18 v22
  v23.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v24 : BitVec 32 := Scalar.addi v2 c4_i32
  let c16_i32_19 : BitVec 32 := 16#32
  let v25 : BitVec 32 := Scalar.remsi v24 c16_i32_19
  let c1_i32_21 : BitVec 32 := 1#32
  let v26 : BitVec 32 := Scalar.muli v25 c1_i32_21
  let v27 : BitVec 32 := Scalar.addi c0_i32_22 v26
  v27.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.addi v2 c5_i32
  let c16_i32_23 : BitVec 32 := 16#32
  let v29 : BitVec 32 := Scalar.remsi v28 c16_i32_23
  let c1_i32_25 : BitVec 32 := 1#32
  let v30 : BitVec 32 := Scalar.muli v29 c1_i32_25
  let v31 : BitVec 32 := Scalar.addi c0_i32_26 v30
  v31.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v32 : BitVec 32 := Scalar.addi v2 c6_i32
  let c16_i32_27 : BitVec 32 := 16#32
  let v33 : BitVec 32 := Scalar.remsi v32 c16_i32_27
  let c1_i32_29 : BitVec 32 := 1#32
  let v34 : BitVec 32 := Scalar.muli v33 c1_i32_29
  let v35 : BitVec 32 := Scalar.addi c0_i32_30 v34
  v35.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v36 : BitVec 32 := Scalar.addi v2 c7_i32
  let c16_i32_31 : BitVec 32 := 16#32
  let v37 : BitVec 32 := Scalar.remsi v36 c16_i32_31
  let c1_i32_33 : BitVec 32 := 1#32
  let v38 : BitVec 32 := Scalar.muli v37 c1_i32_33
  let v39 : BitVec 32 := Scalar.addi c0_i32_34 v38
  v39.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 32 := Scalar.addi v2 c8_i32
  let c16_i32_35 : BitVec 32 := 16#32
  let v41 : BitVec 32 := Scalar.remsi v40 c16_i32_35
  let c1_i32_37 : BitVec 32 := 1#32
  let v42 : BitVec 32 := Scalar.muli v41 c1_i32_37
  let v43 : BitVec 32 := Scalar.addi c0_i32_38 v42
  v43.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v44 : BitVec 32 := Scalar.addi v2 c9_i32
  let c16_i32_39 : BitVec 32 := 16#32
  let v45 : BitVec 32 := Scalar.remsi v44 c16_i32_39
  let c1_i32_41 : BitVec 32 := 1#32
  let v46 : BitVec 32 := Scalar.muli v45 c1_i32_41
  let v47 : BitVec 32 := Scalar.addi c0_i32_42 v46
  v47.toNat
def k0_dev10 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v48 : BitVec 32 := Scalar.addi v2 c10_i32
  let c16_i32_43 : BitVec 32 := 16#32
  let v49 : BitVec 32 := Scalar.remsi v48 c16_i32_43
  let c1_i32_45 : BitVec 32 := 1#32
  let v50 : BitVec 32 := Scalar.muli v49 c1_i32_45
  let v51 : BitVec 32 := Scalar.addi c0_i32_46 v50
  v51.toNat
def k0_dev11 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v52 : BitVec 32 := Scalar.addi v2 c11_i32
  let c16_i32_47 : BitVec 32 := 16#32
  let v53 : BitVec 32 := Scalar.remsi v52 c16_i32_47
  let c1_i32_49 : BitVec 32 := 1#32
  let v54 : BitVec 32 := Scalar.muli v53 c1_i32_49
  let v55 : BitVec 32 := Scalar.addi c0_i32_50 v54
  v55.toNat
def k0_dev12 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v56 : BitVec 32 := Scalar.addi v2 c12_i32
  let c16_i32_51 : BitVec 32 := 16#32
  let v57 : BitVec 32 := Scalar.remsi v56 c16_i32_51
  let c1_i32_53 : BitVec 32 := 1#32
  let v58 : BitVec 32 := Scalar.muli v57 c1_i32_53
  let v59 : BitVec 32 := Scalar.addi c0_i32_54 v58
  v59.toNat
def k0_dev13 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v60 : BitVec 32 := Scalar.addi v2 c13_i32
  let c16_i32_55 : BitVec 32 := 16#32
  let v61 : BitVec 32 := Scalar.remsi v60 c16_i32_55
  let c1_i32_57 : BitVec 32 := 1#32
  let v62 : BitVec 32 := Scalar.muli v61 c1_i32_57
  let v63 : BitVec 32 := Scalar.addi c0_i32_58 v62
  v63.toNat
def k0_dev14 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v64 : BitVec 32 := Scalar.addi v2 c14_i32
  let c16_i32_59 : BitVec 32 := 16#32
  let v65 : BitVec 32 := Scalar.remsi v64 c16_i32_59
  let c1_i32_61 : BitVec 32 := 1#32
  let v66 : BitVec 32 := Scalar.muli v65 c1_i32_61
  let v67 : BitVec 32 := Scalar.addi c0_i32_62 v66
  v67.toNat
def k0_dev15 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v68 : BitVec 32 := Scalar.addi v2 c15_i32
  let c16_i32_63 : BitVec 32 := 16#32
  let v69 : BitVec 32 := Scalar.remsi v68 c16_i32_63
  let c1_i32_65 : BitVec 32 := 1#32
  let v70 : BitVec 32 := Scalar.muli v69 c1_i32_65
  let v71 : BitVec 32 := Scalar.addi c0_i32_66 v70
  v71.toNat
def k0_off2 (d0 : Dev nD) (c1_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v72 : BitVec 32 := Scalar.addi v2 c1_i32_68
  let c16_i32_69 : BitVec 32 := 16#32
  let v73 : BitVec 32 := Scalar.remsi v72 c16_i32_69
  let c512_i32_70 : BitVec 32 := 512#32
  let v74 : BitVec 32 := Scalar.muli v73 c512_i32_70
  let c0_i32_75 : BitVec 32 := 0#32
  ![v74.toNat, 0]
def k0_dev16 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_112 : BitVec 32 := 1#32
  let v118 : BitVec 32 := Scalar.addi v2 c1_i32_112
  let c16_i32_113 : BitVec 32 := 16#32
  let v119 : BitVec 32 := Scalar.remsi v118 c16_i32_113
  let c1_i32_118 : BitVec 32 := 1#32
  let v120 : BitVec 32 := Scalar.muli v119 c1_i32_118
  let v121 : BitVec 32 := Scalar.addi c0_i32_119 v120
  v121.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_145 : BitVec 32 := 2#32
  let v152 : BitVec 32 := Scalar.addi v2 c2_i32_145
  let c16_i32_146 : BitVec 32 := 16#32
  let v153 : BitVec 32 := Scalar.remsi v152 c16_i32_146
  let c1_i32_151 : BitVec 32 := 1#32
  let v154 : BitVec 32 := Scalar.muli v153 c1_i32_151
  let v155 : BitVec 32 := Scalar.addi c0_i32_152 v154
  v155.toNat
def k0_dev18 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_178 : BitVec 32 := 3#32
  let v186 : BitVec 32 := Scalar.addi v2 c3_i32_178
  let c16_i32_179 : BitVec 32 := 16#32
  let v187 : BitVec 32 := Scalar.remsi v186 c16_i32_179
  let c1_i32_184 : BitVec 32 := 1#32
  let v188 : BitVec 32 := Scalar.muli v187 c1_i32_184
  let v189 : BitVec 32 := Scalar.addi c0_i32_185 v188
  v189.toNat
def k0_dev19 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_211 : BitVec 32 := 4#32
  let v220 : BitVec 32 := Scalar.addi v2 c4_i32_211
  let c16_i32_212 : BitVec 32 := 16#32
  let v221 : BitVec 32 := Scalar.remsi v220 c16_i32_212
  let c1_i32_217 : BitVec 32 := 1#32
  let v222 : BitVec 32 := Scalar.muli v221 c1_i32_217
  let v223 : BitVec 32 := Scalar.addi c0_i32_218 v222
  v223.toNat
def k0_dev20 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_244 : BitVec 32 := 5#32
  let v254 : BitVec 32 := Scalar.addi v2 c5_i32_244
  let c16_i32_245 : BitVec 32 := 16#32
  let v255 : BitVec 32 := Scalar.remsi v254 c16_i32_245
  let c1_i32_250 : BitVec 32 := 1#32
  let v256 : BitVec 32 := Scalar.muli v255 c1_i32_250
  let v257 : BitVec 32 := Scalar.addi c0_i32_251 v256
  v257.toNat
def k0_dev21 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_277 : BitVec 32 := 6#32
  let v288 : BitVec 32 := Scalar.addi v2 c6_i32_277
  let c16_i32_278 : BitVec 32 := 16#32
  let v289 : BitVec 32 := Scalar.remsi v288 c16_i32_278
  let c1_i32_283 : BitVec 32 := 1#32
  let v290 : BitVec 32 := Scalar.muli v289 c1_i32_283
  let v291 : BitVec 32 := Scalar.addi c0_i32_284 v290
  v291.toNat
def k0_dev22 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_310 : BitVec 32 := 7#32
  let v322 : BitVec 32 := Scalar.addi v2 c7_i32_310
  let c16_i32_311 : BitVec 32 := 16#32
  let v323 : BitVec 32 := Scalar.remsi v322 c16_i32_311
  let c1_i32_316 : BitVec 32 := 1#32
  let v324 : BitVec 32 := Scalar.muli v323 c1_i32_316
  let v325 : BitVec 32 := Scalar.addi c0_i32_317 v324
  v325.toNat
def k0_dev23 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_343 : BitVec 32 := 8#32
  let v356 : BitVec 32 := Scalar.addi v2 c8_i32_343
  let c16_i32_344 : BitVec 32 := 16#32
  let v357 : BitVec 32 := Scalar.remsi v356 c16_i32_344
  let c1_i32_349 : BitVec 32 := 1#32
  let v358 : BitVec 32 := Scalar.muli v357 c1_i32_349
  let v359 : BitVec 32 := Scalar.addi c0_i32_350 v358
  v359.toNat
def k0_dev24 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_376 : BitVec 32 := 9#32
  let v390 : BitVec 32 := Scalar.addi v2 c9_i32_376
  let c16_i32_377 : BitVec 32 := 16#32
  let v391 : BitVec 32 := Scalar.remsi v390 c16_i32_377
  let c1_i32_382 : BitVec 32 := 1#32
  let v392 : BitVec 32 := Scalar.muli v391 c1_i32_382
  let v393 : BitVec 32 := Scalar.addi c0_i32_383 v392
  v393.toNat
def k0_dev25 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_409 : BitVec 32 := 10#32
  let v424 : BitVec 32 := Scalar.addi v2 c10_i32_409
  let c16_i32_410 : BitVec 32 := 16#32
  let v425 : BitVec 32 := Scalar.remsi v424 c16_i32_410
  let c1_i32_415 : BitVec 32 := 1#32
  let v426 : BitVec 32 := Scalar.muli v425 c1_i32_415
  let v427 : BitVec 32 := Scalar.addi c0_i32_416 v426
  v427.toNat
def k0_dev26 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_442 : BitVec 32 := 11#32
  let v458 : BitVec 32 := Scalar.addi v2 c11_i32_442
  let c16_i32_443 : BitVec 32 := 16#32
  let v459 : BitVec 32 := Scalar.remsi v458 c16_i32_443
  let c1_i32_448 : BitVec 32 := 1#32
  let v460 : BitVec 32 := Scalar.muli v459 c1_i32_448
  let v461 : BitVec 32 := Scalar.addi c0_i32_449 v460
  v461.toNat
def k0_dev27 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_475 : BitVec 32 := 12#32
  let v492 : BitVec 32 := Scalar.addi v2 c12_i32_475
  let c16_i32_476 : BitVec 32 := 16#32
  let v493 : BitVec 32 := Scalar.remsi v492 c16_i32_476
  let c1_i32_481 : BitVec 32 := 1#32
  let v494 : BitVec 32 := Scalar.muli v493 c1_i32_481
  let v495 : BitVec 32 := Scalar.addi c0_i32_482 v494
  v495.toNat
def k0_dev28 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_508 : BitVec 32 := 13#32
  let v526 : BitVec 32 := Scalar.addi v2 c13_i32_508
  let c16_i32_509 : BitVec 32 := 16#32
  let v527 : BitVec 32 := Scalar.remsi v526 c16_i32_509
  let c1_i32_514 : BitVec 32 := 1#32
  let v528 : BitVec 32 := Scalar.muli v527 c1_i32_514
  let v529 : BitVec 32 := Scalar.addi c0_i32_515 v528
  v529.toNat
def k0_dev29 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_533 : BitVec 32 := 14#32
  let v552 : BitVec 32 := Scalar.addi v2 c14_i32_533
  let c16_i32_534 : BitVec 32 := 16#32
  let v553 : BitVec 32 := Scalar.remsi v552 c16_i32_534
  let c1_i32_539 : BitVec 32 := 1#32
  let v554 : BitVec 32 := Scalar.muli v553 c1_i32_539
  let v555 : BitVec 32 := Scalar.addi c0_i32_540 v554
  v555.toNat
def k0_dev30 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_558 : BitVec 32 := 15#32
  let v578 : BitVec 32 := Scalar.addi v2 c15_i32_558
  let c16_i32_559 : BitVec 32 := 16#32
  let v579 : BitVec 32 := Scalar.remsi v578 c16_i32_559
  let c1_i32_564 : BitVec 32 := 1#32
  let v580 : BitVec 32 := Scalar.muli v579 c1_i32_564
  let v581 : BitVec 32 := Scalar.addi c0_i32_565 v580
  v581.toNat
def k0_off3 (d0 : Dev nD) (c16_i32_584 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v604 : BitVec 32 := Scalar.addi v2 c16_i32_584
  let c16_i32_585 : BitVec 32 := 16#32
  let v605 : BitVec 32 := Scalar.remsi v604 c16_i32_585
  let c512_i32_586 : BitVec 32 := 512#32
  let v606 : BitVec 32 := Scalar.muli v605 c512_i32_586
  let c2048_i32 : BitVec 32 := 2048#32
  ![v606.toNat, 2048]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Steps.lean ====
/-
The kernel's function as a sequence of steps. One device's run is: the first copy of the weights
starts, the fifteen peers are signalled and their signals awaited, the first three row blocks of the
activations start towards the staging slots; then sixteen staging steps (stage, round, send), sixteen
computing steps of two halves each, and the fifteen waits for the sends. Each step is stated once, over
its index; `body_eq` says the printed function is their sequence.
-/
module

public import proofs.«01_k».proof.Proof.Gen.KernelIdeal.Skeleton

@[expose] public section

noncomputable section

namespace Cert.KernelIdeal.A2A

open Idealize.ShloMosaic Idealize.SL.Sem Idealize.ShloMosaic.TcCoe
open Cert.KernelIdeal Cert.KernelIdeal.Gen

variable {F : FTy → Type} [FloatOps F]

/-! ## The buffers -/

/-- The activations' columns this device holds. -/
abbrev xM : Memref sig .tc .hbm S8192x512 .f32 := Memref.whole main_arg0
/-- The weights. -/
abbrev wM : Memref sig .tc .hbm S8192x4096 .f32 := Memref.whole main_arg1
/-- The result's block. -/
abbrev oM : Memref sig .tc .vmem S512x4096 .f32 := Memref.whole cc0_stg0_0
/-- The four staging slots of the activations. -/
abbrev stM : Memref sig .tc .vmem S4x512x512 .f32 := Memref.whole cc0_scratch0
/-- The sixteen rounded blocks to send. -/
abbrev sdM : Memref sig .tc .vmem S16x512x512 .bf16 := Memref.whole cc0_scratch1
/-- The sixteen blocks received. -/
abbrev rvM : Memref sig .tc .vmem S16x512x512 .bf16 := Memref.whole cc0_scratch2
/-- The two slots of the weights. -/
abbrev wbM : Memref sig .tc .vmem S2x512x2048 .f32 := Memref.whole cc0_scratch3

/-! ## The peers -/

/-- The device number the kernel computes for the peer `j` places further on the ring. -/
def devOf (c : Dev nD) (j : BitVec 32) : ℕ :=
  (Scalar.addi 0#32 (Scalar.muli (Scalar.remsi (Scalar.addi (Scalar.remsi (Scalar.divsi (Dev.word c) 1#32) 16#32) j)
    16#32) 1#32)).toNat
/-- It is the sum modulo sixteen. -/
theorem devOf_eq : ∀ (c : Dev nD) (j : Fin 16), devOf c (BitVec.ofNat 32 j.val) = (c.val + j.val) % 16 := by
  decide +kernel
theorem devOf_lt (c : Dev nD) (j : ℕ) : devOf c (BitVec.ofNat 32 (j % 16)) < nD := by
  have h := devOf_eq c ⟨j % 16, Nat.mod_lt _ (by decide)⟩
  rw [h]; exact Nat.mod_lt _ (by decide)
/-- The peer `j` places further on the ring. -/
def peer (c : Dev nD) (j : ℕ) : Dev nD := ⟨devOf c (BitVec.ofNat 32 (j % 16)), devOf_lt c j⟩
theorem peer_val (c : Dev nD) (j : ℕ) : (peer c j).val = (c.val + j) % 16 := by
  have h := devOf_eq c ⟨j % 16, Nat.mod_lt _ (by decide)⟩
  show devOf c _ = _
  rw [h]; show (c.val + j % 16) % 16 = _; omega

/-! ## The slots of the buffers -/

theorem inb_st (s : ℕ) : ∀ a, (![s % 4, 0, 0] : Fin 3 → ℕ) a + S1x512x512.size a ≤ S4x512x512.size a := by
  have h : s % 4 < 4 := Nat.mod_lt _ (by decide)
  intro a; fin_cases a
  · show s % 4 + 1 ≤ 4; omega
  · exact Nat.le_refl _
  · exact Nat.le_refl _
theorem inb_blk (j : ℕ) : ∀ a, (![j % 16, 0, 0] : Fin 3 → ℕ) a + S1x512x512.size a ≤ S16x512x512.size a := by
  have h : j % 16 < 16 := Nat.mod_lt _ (by decide)
  intro a; fin_cases a
  · show j % 16 + 1 ≤ 16; omega
  · exact Nat.le_refl _
  · exact Nat.le_refl _
theorem inb_wb (s : ℕ) : ∀ a, (![s % 2, 0, 0] : Fin 3 → ℕ) a + S1x512x2048.size a ≤ S2x512x2048.size a := by
  have h : s % 2 < 2 := Nat.mod_lt _ (by decide)
  intro a; fin_cases a
  · show s % 2 + 1 ≤ 2; omega
  · exact Nat.le_refl _
  · exact Nat.le_refl _
theorem inb_o (h : ℕ) : ∀ a, (![0, 2048 * (h % 2)] : Fin 2 → ℕ) a + S512x2048.size a ≤ S512x4096.size a := by
  have h : h % 2 < 2 := Nat.mod_lt _ (by decide)
  intro a; fin_cases a
  · exact Nat.le_refl _
  · show 2048 * (_ % 2) + 2048 ≤ 4096; omega
theorem inb_sem16 (j : ℕ) : ∀ a, (![j % 16] : Fin 1 → ℕ) a + S1.size a ≤ S16.size a := by
  have h : j % 16 < 16 := Nat.mod_lt _ (by decide)
  intro a; fin_cases a; show j % 16 + 1 ≤ 16; omega
theorem inb_sem4 (j : ℕ) : ∀ a, (![j % 4] : Fin 1 → ℕ) a + S1.size a ≤ S4.size a := by
  have h : j % 4 < 4 := Nat.mod_lt _ (by decide)
  intro a; fin_cases a; show j % 4 + 1 ≤ 4; omega
theorem inb_sem2 (j : ℕ) : ∀ a, (![j % 2] : Fin 1 → ℕ) a + S1.size a ≤ S2.size a := by
  have h : j % 2 < 2 := Nat.mod_lt _ (by decide)
  intro a; fin_cases a; show j % 2 + 1 ≤ 2; omega

/-- Staging slot `s`'s rectangle (the slot's number modulo four). -/
abbrev stR (s : ℕ) : Rect S4x512x512 := Rect.unit (s := S4x512x512) ![s % 4, 0, 0] S1x512x512.size (inb_st s)
/-- Block `j`'s rectangle in the buffers of sixteen. -/
abbrev blkR (j : ℕ) : Rect S16x512x512 := Rect.unit (s := S16x512x512) ![j % 16, 0, 0] S1x512x512.size (inb_blk j)
/-- Weights slot `s`'s rectangle. -/
abbrev wbR (s : ℕ) : Rect S2x512x2048 := Rect.unit (s := S2x512x2048) ![s % 2, 0, 0] S1x512x2048.size (inb_wb s)
/-- The result's column half `h`. -/
abbrev oR (h : ℕ) : Rect S512x4096 := Rect.unit (s := S512x4096) ![0, 2048 * (h % 2)] S512x2048.size (inb_o h)

theorem blk_packed (j : ℕ) : (blkR j).PackedRows (EltTy.packing .bf16) := by
  right; refine ⟨by decide, rfl, Or.inl ⟨?_, ?_⟩⟩
  · exact ⟨0, rfl⟩
  · exact ⟨256, rfl⟩
theorem blk_words (j : ℕ) : (blkR j).WholeWords (EltTy.packing .bf16) := (blk_packed j).wholeWords

/-- Staging slot `s` as a matrix. -/
abbrev stV (s : ℕ) : Memref sig .tc .vmem S512x512 .f32 :=
  (stM.slice (stR s) (fun _ => rfl)).squeeze S512x512 squeezes_S1x512x512_S512x512
/-- The block to send to the peer `j` places further. -/
abbrev sdV (j : ℕ) : Memref sig .tc .vmem S512x512 .bf16 :=
  (sdM.slice (blkR j) (fun _ => rfl)).squeeze S512x512 squeezes_S1x512x512_S512x512
/-- The block received from the peer `j` places back. -/
abbrev rvV (j : ℕ) : Memref sig .tc .vmem S512x512 .bf16 :=
  (rvM.slice (blkR j) (fun _ => rfl)).squeeze S512x512 squeezes_S1x512x512_S512x512
/-- Weights slot `s` as a matrix. -/
abbrev wbV (s : ℕ) : Memref sig .tc .vmem S512x2048 .f32 :=
  (wbM.slice (wbR s) (fun _ => rfl)).squeeze S512x2048 squeezes_S1x512x2048_S512x2048

/-! ## The semaphores -/

/-- The barrier. -/
abbrev barS : Sem sig := (SemArray.scalar (sig.barrier 0 rfl) : Sems sig S_).sem
abbrev sendS (j : ℕ) : DmaSem sig :=
  ((cc0_scratch4.slice (Rect.unit (s := S16) ![j % 16] S1.size (inb_sem16 j))).squeeze S_ squeezes_S1_S_).sem
abbrev recvS (j : ℕ) : DmaSem sig :=
  ((cc0_scratch5.slice (Rect.unit (s := S16) ![j % 16] S1.size (inb_sem16 j))).squeeze S_ squeezes_S1_S_).sem
abbrev stS (s : ℕ) : DmaSem sig :=
  ((cc0_scratch6.slice (Rect.unit (s := S4) ![s % 4] S1.size (inb_sem4 s))).squeeze S_ squeezes_S1_S_).sem
abbrev wS (s : ℕ) : DmaSem sig :=
  ((cc0_scratch7.slice (Rect.unit (s := S2) ![s % 2] S1.size (inb_sem2 s))).squeeze S_ squeezes_S1_S_).sem

/-! ## The sources of the copies -/

/-- Row block `(c + j) mod 16` of the activations. -/
abbrev xR (c : Dev nD) (j : ℕ) : Rect S8192x512 :=
  Rect.unit (s := S8192x512) (k0_off2 c (BitVec.ofNat 32 (j % 16))) S512x512.size
    (k0_off2_inb c ⟨j % 16, Nat.mod_lt _ (by decide)⟩)
abbrev xV (c : Dev nD) (j : ℕ) : Memref sig .tc .hbm S512x512 .f32 := xM.slice (xR c j) (fun _ => rfl)

/-- Where the weights' block of step `k = 2 d + h` starts: row block `(c - d) mod 16`, column half `h`. -/
def wOff (c : Dev nD) (k : ℕ) : Fin 2 → ℕ :=
  ![k0_off1 c (BitVec.ofNat 32 (1 + (15 - k / 2 % 16))) 0, 2048 * (k % 2)]
theorem wOff_eq (c : Dev nD) (k : ℕ) :
    wOff c k = ![512 * ((c.val + (15 - k / 2 % 16) + 1) % 16), 2048 * (k % 2)] := by
  unfold wOff
  have := k0_off1_eq c ⟨15 - k / 2 % 16, by omega⟩
  rw [this]; rfl
theorem wOff_inb (c : Dev nD) (k : ℕ) : ∀ a, wOff c k a + S512x2048.size a ≤ S8192x4096.size a := by
  rw [wOff_eq]
  have h1 : k % 2 < 2 := Nat.mod_lt _ (by decide)
  intro a; fin_cases a
  · show 512 * ((c.val + (15 - k / 2 % 16) + 1) % 16) + 512 ≤ 8192; omega
  · show 2048 * (k % 2) + 2048 ≤ 4096; omega
abbrev wR (c : Dev nD) (k : ℕ) : Rect S8192x4096 :=
  Rect.unit (s := S8192x4096) (wOff c k) S512x2048.size (wOff_inb c k)
abbrev wV (c : Dev nD) (k : ℕ) : Memref sig .tc .hbm S512x2048 .f32 := wM.slice (wR c k) (fun _ => rfl)

/-! ## The arithmetic of a step -/

/-- The product of a received block and a weights block. -/
def prod (a : Vec F S1x512x512 .bf16) (w : Vec F S1x512x2048 .f32) : FVec F S512x2048 .f32 := k0_pay17 a w
/-- The product added to what the result holds. -/
def accum (a : Vec F S1x512x512 .bf16) (w : Vec F S1x512x2048 .f32) (o : Vec F S512x2048 .f32) : FVec F S512x2048 .f32 :=
  k0_pay19 a w o
/-- and, at the last step, the larger of that and zero. -/
def accumRelu (a : Vec F S1x512x512 .bf16) (w : Vec F S1x512x2048 .f32) (o : Vec F S512x2048 .f32) :
    FVec F S512x2048 .f32 := k0_pay56 a w o
/-- What step `d` stores. -/
def pay (d : ℕ) (a : Vec F S1x512x512 .bf16) (w : Vec F S1x512x2048 .f32) (o : Vec F S512x2048 .f32) :
    FVec F S512x2048 .f32 := if d = 0 then prod a w else if d = 15 then accumRelu a w o else accum a w o

/-! ## The steps -/

/-- The programs of a core. -/
abbrev TcProg (F : FTy → Type) [FloatOps F] (α : Type) := Prog (TpuEff nD τ sig (Elt F) Λ₀ .tc) α

/-- Weights copy `k` starts. -/
def wStart (c : Dev nD) (k : ℕ) : TcProg F PUnit :=
  Prog.lift (.enqueueDma (wV c k) (.here (wbV k)) (.dma (wS k)) (View.wordExact_bits rfl)
    ((View.wordExact_bits rfl).reshape _ _) ⟨Or.inl rfl, trivial⟩)
/-- and is awaited. -/
def wWait (c : Dev nD) (k : ℕ) : TcProg F PUnit :=
  Prog.lift (.waitDma2 (wS k) (wV c k) (wbV k) (View.wordExact_bits rfl) ((View.wordExact_bits rfl).reshape _ _))
/-- Staging copy `i` starts: row block `(c + i + 1) mod 16` into slot `i mod 4`. -/
def stStart (c : Dev nD) (i : ℕ) : TcProg F PUnit :=
  Prog.lift (.enqueueDma (xV c (i + 1)) (.here (stV i)) (.dma (stS i)) (View.wordExact_bits rfl)
    ((View.wordExact_bits rfl).reshape _ _) ⟨Or.inl rfl, trivial⟩)
def stWait (c : Dev nD) (i : ℕ) : TcProg F PUnit :=
  Prog.lift (.waitDma2 (stS i) (xV c (i + 1)) (stV i) (View.wordExact_bits rfl) ((View.wordExact_bits rfl).reshape _ _))
/-- The staged block rounded into send block `j`. -/
def round (i j : ℕ) : TcProg F PUnit := do
  let v : Vec F S1x512x512 .f32 ← Prog.lift (.load stM (stR i).toLoadRect (View.loadsAt_vmem h_S1x512x512))
  let _ : Vec F S1x512x512 .bf16 ← Prog.lift (.load sdM (blkR j).toLoadRect (View.loadsAt_vmem h_S1x512x512))
  Prog.lift (.store sdM (blkR j) (k0_pay1 v) Finset.univ
    (View.stores_vmem h_S1x512x512 ((Memref.isWhole_whole _).storeExact_slice rfl _ (blk_packed j)) (fun _ => rfl))
    (.inl rfl))
/-- Send block `j` to the peer `j` places further, into its block `j`. -/
def send (c : Dev nD) (j : ℕ) : TcProg F PUnit :=
  Prog.lift (.enqueueDma (sdV j) (.remote (Dev.tc (peer c j)) (rvV j) (.dma (sendS j))) (.dma (recvS j))
    (((Memref.isWhole_whole _).wordExact_slice rfl _ (blk_words j)).reshape _ _)
    (((Memref.isWhole_whole _).wordExact_slice rfl _ (blk_words j)).reshape _ _) ⟨⟨rfl, Or.inl rfl⟩, trivial⟩)
/-- The received block `j` is awaited; -/
def recvWait (j : ℕ) : TcProg F PUnit :=
  Prog.lift (.waitDma2 (recvS j) (sdV j) (rvV j)
    (((Memref.isWhole_whole _).wordExact_slice rfl _ (blk_words j)).reshape _ _)
    (((Memref.isWhole_whole _).wordExact_slice rfl _ (blk_words j)).reshape _ _))
/-- the sending of block `j` is. -/
def sendWait (j : ℕ) : TcProg F PUnit :=
  Prog.lift (.waitDma2 (sendS j) (rvV j) (sdV j)
    (((Memref.isWhole_whole _).wordExact_slice rfl _ (blk_words j)).reshape _ _)
    (((Memref.isWhole_whole _).wordExact_slice rfl _ (blk_words j)).reshape _ _))
/-- The peer `j` places further is signalled. -/
def signal (c : Dev nD) (j : ℕ) : TcProg F PUnit := semSignalWord (peer c j) barS 1#32
/-- Fifteen signals are awaited. -/
def barWait : TcProg F PUnit := semWaitWord barS 15#32

/-- Staging step `i`: copy `i + 3` starts, copy `i` is awaited and rounded, and its block is sent. -/
def stageStep (c : Dev nD) (i : ℕ) : TcProg F PUnit := do
  if i + 3 < 16 then stStart c (i + 3) else pure ⟨⟩
  stWait c i
  round i (i + 1)
  if i + 1 < 16 then send c (i + 1) else pure ⟨⟩

/-- The block step `d` multiplies: this device's own at step zero, a received one after. -/
def lhsM (d : ℕ) : Memref sig .tc .vmem S16x512x512 .bf16 := if d = 0 then sdM else rvM

/-- The arithmetic of half `h` of computing step `d`, with what it reads and stores. -/
def compute (d h : ℕ) : TcProg F PUnit := do
  let a : Vec F S1x512x512 .bf16 ← Prog.lift (.load (lhsM d) (blkR d).toLoadRect (View.loadsAt_vmem h_S1x512x512))
  let w : Vec F S1x512x2048 .f32 ← Prog.lift (.load wbM (wbR h).toLoadRect (View.loadsAt_vmem h_S1x512x2048))
  let o : Vec F S512x2048 .f32 ← Prog.lift (.load oM (oR h).toLoadRect (View.loadsAt_vmem h_S512x2048))
  if d = 0 then pure ⟨⟩ else do
    let _ : Vec F S512x2048 .f32 ← Prog.lift (.load oM (oR h).toLoadRect (View.loadsAt_vmem h_S512x2048))
    pure ⟨⟩
  Prog.lift (.store oM (oR h) (pay d a w o) Finset.univ (View.stores_vmem_bits_univ h_S512x2048 rfl) (.inl rfl))

/-- Weights copy `k` starts if there is one. -/
def wNext (c : Dev nD) (k : ℕ) : TcProg F PUnit := if k < 32 then wStart c k else pure ⟨⟩

/-- Computing step `d`: its two halves, each with the next weights copy started and its own awaited. -/
def compStep (c : Dev nD) (d : ℕ) : TcProg F PUnit := do
  wNext c (2 * d + 1)
  wWait c (2 * d)
  if d = 0 then pure ⟨⟩ else recvWait d
  compute d 0
  wNext c (2 * d + 2)
  wWait c (2 * d + 1)
  compute d 1

/-- The steps `i`, `i + 1`, … of a loop, `n` of them. -/
def steps (f : ℕ → TcProg F PUnit) : ℕ → ℕ → TcProg F PUnit
  | 0, _ => pure ⟨⟩
  | n + 1, i => f i >>= fun _ => steps f n (i + 1)

/-- The whole run of one device. -/
def body : TcProg F PUnit := do
  let c : Dev nD ← Prog.lift .deviceId
  wStart c 0
  steps (signal c) 15 1
  barWait
  steps (stStart c) 3 0
  steps (stageStep c) 16 0
  steps (compStep c) 16 0
  steps sendWait 15 1

/-- The function `f` of the printed function's arguments, at the arguments it runs with. -/
abbrev onBufs {β : Type 1} (f : (a0 : Memref sig .tc .hbm S8192x512 .f32) → a0.IsWhole →
    (a1 : Memref sig .tc .hbm S8192x4096 .f32) → a1.IsWhole → (a2 : Memref sig .tc .vmem S512x4096 .f32) → a2.IsWhole →
    (a3 : Memref sig .tc .vmem S4x512x512 .f32) → a3.IsWhole → (a4 : Memref sig .tc .vmem S16x512x512 .bf16) → a4.IsWhole →
    (a5 : Memref sig .tc .vmem S16x512x512 .bf16) → a5.IsWhole → (a6 : Memref sig .tc .vmem S2x512x2048 .f32) → a6.IsWhole →
    DmaSems sig S16 → DmaSems sig S16 → DmaSems sig S4 → DmaSems sig S2 → β) : β :=
  f xM (Memref.isWhole_whole _) wM (Memref.isWhole_whole _) oM (Memref.isWhole_whole _)
    stM (Memref.isWhole_whole _) sdM (Memref.isWhole_whole _) rvM (Memref.isWhole_whole _) wbM (Memref.isWhole_whole _)
    cc0_scratch4 cc0_scratch5 cc0_scratch6 cc0_scratch7

/-- This device's place on the axis, as the printed word. -/
abbrev meWord (c : Dev nD) : BitVec 32 := Scalar.remsi (Scalar.divsi (Dev.word c) 1#32) 16#32

set_option maxRecDepth 100000 in
/-- The beginning of the printed function: the barrier and the first copies. -/
theorem front_eq (K : Dev nD → BitVec 32 → TcProg F PUnit) : (do
  let ⟨d0, v2, v11, v25, c1_i32_21⟩ : Σ' (d0 : Dev nD) (v2 : BitVec 32) (v11 : Sems sig S_) (v25 : BitVec 32), BitVec 32 ← onBufs (k0_part1 (F := F))
  let ⟨v49, c1_i32_45⟩ : Σ' (v49 : BitVec 32), BitVec 32 ← onBufs (k0_part2 (F := F)) d0 v2 v11 v25 c1_i32_21
  let ⟨v72, c16_i32_69⟩ : Σ' (v72 : BitVec 32), BitVec 32 ← onBufs (k0_part3 (F := F)) d0 v2 v11 v49 c1_i32_45
  onBufs (k0_part4 (F := F)) d0 v2 v72 c16_i32_69
  K d0 v2 : TcProg F PUnit) = (do
  let c : Dev nD ← Prog.lift .deviceId
  wStart c 0
  steps (signal c) 15 1
  barWait
  steps (stStart c) 3 0
  K c (meWord c)) := rfl

/-- The printed function after its beginning. -/
def loopPart (d0 : Dev nD) (v2 : BitVec 32) : TcProg F PUnit := do
  let v119 : BitVec 32 ← onBufs (k0_part5 (F := F)) d0 v2
  let v153 : BitVec 32 ← onBufs (k0_part6 (F := F)) d0 v2
  let c3_i32_178 : BitVec 32 ← onBufs (k0_part7 (F := F)) d0 v2
  let v187 : BitVec 32 ← onBufs (k0_part8 (F := F)) d0 v2 c3_i32_178
  let v221 : BitVec 32 ← onBufs (k0_part9 (F := F)) d0 v2
  let v255 : BitVec 32 ← onBufs (k0_part10 (F := F)) d0 v2
  let v289 : BitVec 32 ← onBufs (k0_part11 (F := F)) d0 v2
  let v323 : BitVec 32 ← onBufs (k0_part12 (F := F)) d0 v2
  let c8_i32_343 : BitVec 32 ← onBufs (k0_part13 (F := F)) d0 v2
  let v357 : BitVec 32 ← onBufs (k0_part14 (F := F)) d0 v2 c8_i32_343
  let v391 : BitVec 32 ← onBufs (k0_part15 (F := F)) d0 v2
  let v425 : BitVec 32 ← onBufs (k0_part16 (F := F)) d0 v2
  let v459 : BitVec 32 ← onBufs (k0_part17 (F := F)) d0 v2
  let v493 : BitVec 32 ← onBufs (k0_part18 (F := F)) d0 v2
  let c13_i32_508 : BitVec 32 ← onBufs (k0_part19 (F := F)) d0 v2
  let ⟨v527, v553⟩ : Σ' (v527 : BitVec 32), BitVec 32 ← onBufs (k0_part20 (F := F)) d0 v2 c13_i32_508
  let ⟨v579, v580, c0_i32_565⟩ : Σ' (v579 : BitVec 32) (v580 : BitVec 32), BitVec 32 ← onBufs (k0_part21 (F := F)) d0 v2 v553
  onBufs (k0_part22 (F := F)) d0 v2 v580 c0_i32_565
  onBufs (k0_part23 (F := F)) d0 v2
  onBufs (k0_part24 (F := F)) d0 v2
  let v692 : BitVec 32 ← onBufs (k0_part25 (F := F)) d0 v2 v119
  onBufs (k0_part26 (F := F)) d0 v2 v692
  onBufs (k0_part27 (F := F)) d0 v2 v153
  onBufs (k0_part28 (F := F)) d0 v2
  let v802 : FVec F S512x2048 .f32 ← onBufs (k0_part29 (F := F)) d0 v2 v187
  let c12_i32_823 : BitVec 32 ← onBufs (k0_part30 (F := F)) d0 v2 v802
  let v856 : FVec F S512x512 .f32 ← onBufs (k0_part31 (F := F)) d0 v2 v221 c12_i32_823
  let ⟨v882, v884, cst_882⟩ : Σ' (v882 : FVec F S512x512 .f32) (v884 : FVec F S512x2048 .f32), FVec F S512x2048 .f32 ← onBufs (k0_part32 (F := F)) d0 v2 v856
  onBufs (k0_part33 (F := F)) d0 v2 v255 v882 v884 cst_882
  onBufs (k0_part34 (F := F)) d0 v2
  let c1_i32_971 : BitVec 32 ← onBufs (k0_part35 (F := F)) d0 v2
  onBufs (k0_part36 (F := F)) d0 v2 v289 c1_i32_971
  onBufs (k0_part37 (F := F)) d0 v2
  onBufs (k0_part38 (F := F)) d0 v2 v323
  onBufs (k0_part39 (F := F)) d0 v2
  let v1104 : BitVec 32 ← onBufs (k0_part40 (F := F)) d0 v2 v357
  onBufs (k0_part41 (F := F)) d0 v2 v1104
  let v1159 : FVec F S512x2048 .f32 ← onBufs (k0_part42 (F := F)) d0 v2 v391
  let ⟨v1185, v1187⟩ : Σ' (v1185 : FVec F S512x2048 .f32), FVec F S512x2048 .f32 ← onBufs (k0_part43 (F := F)) d0 v2 v1159
  onBufs (k0_part44 (F := F)) d0 v2 v425 v1185 v1187
  let v1242 : FVec F S512x512 .f32 ← onBufs (k0_part45 (F := F)) d0 v2
  onBufs (k0_part46 (F := F)) d0 v2 v459 v1242
  onBufs (k0_part47 (F := F)) d0 v2
  onBufs (k0_part48 (F := F)) d0 v2
  let c4_i32_1380 : BitVec 32 ← onBufs (k0_part49 (F := F)) d0 v2 v493
  let ⟨v1379, c512_i32_1409⟩ : Σ' (v1379 : BitVec 32), BitVec 32 ← onBufs (k0_part50 (F := F)) d0 v2 c4_i32_1380
  onBufs (k0_part51 (F := F)) d0 v2 v527 v1379 c512_i32_1409
  onBufs (k0_part52 (F := F)) d0 v2
  let v1462 : FVec F S512x2048 .f32 ← onBufs (k0_part53 (F := F)) d0 v2 v553
  onBufs (k0_part54 (F := F)) d0 v2 v1462
  let v1516 : FVec F S512x512 .f32 ← onBufs (k0_part55 (F := F)) d0 v2 v579
  onBufs (k0_part56 (F := F)) d0 v2 v1516
  onBufs (k0_part57 (F := F))
  onBufs (k0_part58 (F := F))
  onBufs (k0_part59 (F := F))
  onBufs (k0_part60 (F := F))

set_option maxRecDepth 100000 in
set_option maxHeartbeats 4000000 in
/-- The printed loops are the steps. -/
theorem loopPart_eq (d0 : Dev nD) (v2 : BitVec 32) : loopPart (F := F) d0 v2 = (do
  steps (stageStep d0) 16 0
  steps (compStep d0) 16 0
  steps sendWait 15 1) := rfl

/-- The printed function is its beginning and then its loops. -/
theorem printed_eq : onBufs (cc0_body (F := F)) = (do
  let ⟨d0, v2, v11, v25, c1_i32_21⟩ : Σ' (d0 : Dev nD) (v2 : BitVec 32) (v11 : Sems sig S_) (v25 : BitVec 32), BitVec 32 ← onBufs (k0_part1 (F := F))
  let ⟨v49, c1_i32_45⟩ : Σ' (v49 : BitVec 32), BitVec 32 ← onBufs (k0_part2 (F := F)) d0 v2 v11 v25 c1_i32_21
  let ⟨v72, c16_i32_69⟩ : Σ' (v72 : BitVec 32), BitVec 32 ← onBufs (k0_part3 (F := F)) d0 v2 v11 v49 c1_i32_45
  onBufs (k0_part4 (F := F)) d0 v2 v72 c16_i32_69
  loopPart d0 v2) := by
  unfold onBufs cc0_body k0_part61 loopPart
  simp only [Prog.bind_assoc]
  rfl

/-- The printed function is the sequence of the steps. -/
theorem body_eq : onBufs (cc0_body (F := F)) = body (F := F) :=
  printed_eq.trans ((front_eq loopPart).trans (by simp only [loopPart_eq]; rfl))

end Cert.KernelIdeal.A2A
-- ==== Proof.Sched.lean ====
/-
The protocol of the kernel's semaphores: which cells a device has, what each contribution to one hands
over, what a device owes, and in what order it may wait.

A device's barrier cell is contributed to once by every peer, each contribution handing over the peer's
receiving block for this device. A sending cell gives back the block sent; a receiving cell gives the
block that arrived. The cells of the staging slots and of the weights slots are contributed to once for
every copy into the slot, and give the slot at the block copied together with the copy's source.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline library's copy beside the protocol's -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents of the blocks -/

/-- What the devices hold as activations, and as weights. -/
abbrev XArr (F : FTy → Type) : Type := (c : Dev nD) → Buf (Elt F) ((c : Thread nD τ).loc main_arg0)
abbrev WArr (F : FTy → Type) : Type := (c : Dev nD) → Buf (Elt F) ((c : Thread nD τ).loc main_arg1)

/-- A matrix as a block of one. -/
def unsq {α : Type} (X : S512x512.Idx → α) : S1x512x512.Idx → α :=
  fun y => X ((Shape.reshapeEquiv squeezes_S1x512x512_S512x512.numel_eq).symm y)
/-- A block of one as a matrix. -/
def sq {α : Type} (Y : S1x512x512.Idx → α) : S512x512.Idx → α :=
  fun x => Y (Shape.reshapeEquiv squeezes_S1x512x512_S512x512.numel_eq x)
/-- A weights matrix as a block of one. -/
def unsqW {α : Type} (X : S512x2048.Idx → α) : S1x512x2048.Idx → α :=
  fun y => X ((Shape.reshapeEquiv squeezes_S1x512x2048_S512x2048.numel_eq).symm y)

/-- Row block `(c + j) mod 16` of device `c`'s activations; -/
def xBlk (X : XArr F) (c : Dev nD) (j : ℕ) : Vec F S512x512 .f32 := (xV c j).view.read (Elt F) (X c)
/-- rounded: what device `c` sends to the peer `j` places further. -/
def sBlk (X : XArr F) (c : Dev nD) (j : ℕ) : Vec F S512x512 .bf16 := sq (k0_pay1 (unsq (xBlk X c j)))
/-- What device `c` receives from the peer `j` places back; at zero its own block. -/
def rBlk (X : XArr F) (c : Dev nD) (j : ℕ) : Vec F S512x512 .bf16 := sBlk X (peer c (16 - j)) j
/-- The weights' block of step `k`. -/
def wBlk (W : WArr F) (c : Dev nD) (k : ℕ) : Vec F S512x2048 .f32 := (wV c k).view.read (Elt F) (W c)

/-- The elements under a matrix of device `c`, held at the contents `f`. -/
def held (c : Dev nD) {sp : Space} {s : Shape} {e : EltTy} (v : Memref sig .tc sp s e)
    (f : v.view.ty.Contents (Elt F)) : sProp 𝕄 :=
  v.view.loc (c : Thread nD τ) ↦[v.view.set]{fullShare} f
/-- The elements under a matrix of device `c`, read as `Y`. -/
abbrev reads (c : Dev nD) {sp : Space} {s : Shape} {e : EltTy} (v : Memref sig .tc sp s e) (Y : s.Idx → Elt F e) : sProp 𝕄 :=
  owns (c : Thread nD τ) v fullShare Y
/-- The same at some contents. -/
def any (c : Dev nD) {sp : Space} {s : Shape} {e : EltTy} (v : Memref sig .tc sp s e) : sProp 𝕄 :=
  iprop(∃ f, held (F := F) c v f)

instance held_storable (c : Dev nD) {sp : Space} {s : Shape} {e : EltTy} (v : Memref sig .tc sp s e)
    (f : v.view.ty.Contents (Elt F)) : BI.Storable (upEmb : UEmb _ 𝕄) (held c v f) := by
  unfold held; infer_instance
instance any_storable (c : Dev nD) {sp : Space} {s : Shape} {e : EltTy} (v : Memref sig .tc sp s e) :
    BI.Storable (upEmb : UEmb _ 𝕄) (any (F := F) c v) := by
  unfold any; infer_instance

/-! ## The cells -/

theorem sendS_mod (j : ℕ) : sendS (j % 16) = sendS j :=
  congrArg (fun a : DmaSems sig S1 => (a.squeeze S_ squeezes_S1_S_).sem)
    (SemArray.slice_unit_congr cc0_scratch4 (by rw [Nat.mod_mod]) _ _)
theorem sendS_val (j : ℕ) : (sendS j).val = 1 + j % 16 := by
  have h : ∀ j : Fin 16, (sendS j.val).val = 1 + j.val := by decide +kernel
  rw [← sendS_mod]; exact h ⟨j % 16, Nat.mod_lt _ (by decide)⟩
theorem recvS_mod (j : ℕ) : recvS (j % 16) = recvS j :=
  congrArg (fun a : DmaSems sig S1 => (a.squeeze S_ squeezes_S1_S_).sem)
    (SemArray.slice_unit_congr cc0_scratch5 (by rw [Nat.mod_mod]) _ _)
theorem recvS_val (j : ℕ) : (recvS j).val = 17 + j % 16 := by
  have h : ∀ j : Fin 16, (recvS j.val).val = 17 + j.val := by decide +kernel
  rw [← recvS_mod]; exact h ⟨j % 16, Nat.mod_lt _ (by decide)⟩
theorem stS_mod (s : ℕ) : stS (s % 4) = stS s :=
  congrArg (fun a : DmaSems sig S1 => (a.squeeze S_ squeezes_S1_S_).sem)
    (SemArray.slice_unit_congr cc0_scratch6 (by rw [Nat.mod_mod]) _ _)
theorem stS_val (s : ℕ) : (stS s).val = 33 + s % 4 := by
  have h : ∀ j : Fin 4, (stS j.val).val = 33 + j.val := by decide +kernel
  rw [← stS_mod]; exact h ⟨s % 4, Nat.mod_lt _ (by decide)⟩
theorem wS_mod (s : ℕ) : wS (s % 2) = wS s :=
  congrArg (fun a : DmaSems sig S1 => (a.squeeze S_ squeezes_S1_S_).sem)
    (SemArray.slice_unit_congr cc0_scratch7 (by rw [Nat.mod_mod]) _ _)
theorem wS_val (s : ℕ) : (wS s).val = 37 + s % 2 := by
  have h : ∀ j : Fin 2, (wS j.val).val = 37 + j.val := by decide +kernel
  rw [← wS_mod]; exact h ⟨s % 2, Nat.mod_lt _ (by decide)⟩

abbrev barCell (c : Dev nD) : GSem nD τ sig := ((c : Thread nD τ), .reg barS)
abbrev dCell (c : Dev nD) (q : DmaSem sig) : GSem nD τ sig := ((c : Thread nD τ), .dma q)

/-- The cells' semaphores by number: the barrier, then the copies' ones from the first sending one on. -/
abbrev csem (n : Fin 39) : SemLoc sig := if n = 0 then .reg barS else .dma n
abbrev kcell (ck : Dev nD × Fin 39) : GSem nD τ sig := ((ck.1 : Thread nD τ), csem ck.2)

/-- The credit of a copy into a staging slot, of one of a sent block, of one into a weights slot. -/
abbrev Nst : ℕ := (stV 0).view.dmaCredit
abbrev Nb : ℕ := (rvV 0).view.dmaCredit
abbrev Nw : ℕ := (wbV 0).view.dmaCredit
theorem Nst_pos : 0 < Nst := View.dmaCredit_pos _ (by decide)
theorem Nb_pos : 0 < Nb := View.dmaCredit_pos _ (by decide)
theorem Nw_pos : 0 < Nw := View.dmaCredit_pos _ (by decide)

/-! ## The schedule -/

/-- How many rounds a copies' cell has: one for a sent or received block, four for a staging slot,
    sixteen for a weights slot; the two semaphores of block zero are not used. -/
def nRounds (q : ℕ) : ℕ :=
  if q = 0 ∨ q = 1 ∨ q = 17 then 0 else if q < 33 then 1 else if q < 37 then 4 else 16

/-- What a contribution to the copies' cell `q` of device `c` hands over in round `r`. -/
def pays (X : XArr F) (W : WArr F) (c : Dev nD) (q r : ℕ) : sProp 𝕄 :=
  if q < 17 then any c (sdV (q - 1))
  else if q < 33 then reads c (rvV (q - 17)) (rBlk X c (q - 17))
  else if q < 37 then iprop(reads c (stV (q - 33 + 4 * r)) (xBlk X c (q - 33 + 4 * r + 1))
    ∗ held c (xV c (q - 33 + 4 * r + 1)) (X c))
  else iprop(reads c (wbV (q - 37 + 2 * r)) (wBlk W c (q - 37 + 2 * r)) ∗ held c (wV c (q - 37 + 2 * r)) (W c))

instance pays_storable (X : XArr F) (W : WArr F) (c : Dev nD) (q r : ℕ) :
    BI.Storable (upEmb : UEmb _ 𝕄) (pays X W c q r) := by
  unfold pays; (repeat' split) <;> infer_instance

/-- The protocol. Duty `d` of a barrier cell is the signal of the peer `d` places further, and hands over
    that peer's receiving block `d`. -/
def rd (X : XArr F) (W : WArr F) : Rounds.Schedule (GSem nD τ sig) ℕ 𝕄 where
  duties g r := if g.1.2 = .tc then
      match g.2 with
      | .reg _ => if r = 0 then Finset.Ico 1 16 else ∅
      | .dma q => if r < nRounds q.val then {0} else ∅
    else ∅
  unitless _ := False
  amount g _ _ := match g.2 with
    | .reg _ => 1
    | .dma q => if q.val < 33 then Nb else if q.val < 37 then Nst else Nw
  payload g r d := match g.2 with
    | .reg _ => any (peer g.1.1 d) (rvV d)
    | .dma q => pays X W g.1.1 q.val r
  amount_pos g r d _ := by
    rcases g with ⟨t, s | q⟩
    · exact Nat.one_pos
    · show 0 < if q.val < 33 then Nb else if q.val < 37 then Nst else Nw
      split
      · exact Nb_pos
      · split
        · exact Nst_pos
        · exact Nw_pos

instance rd_payload_storable (X : XArr F) (W : WArr F) (g : GSem nD τ sig) (r : ℕ) (d : ℕ) :
    BI.Storable (upEmb : UEmb _ 𝕄) ((rd X W).payload g r d) := by
  rcases g with ⟨t, s | q⟩
  · show BI.Storable upEmb (any (peer t.1 d) (rvV d)); infer_instance
  · show BI.Storable upEmb (pays X W t.1 q.val r); infer_instance

section Rd
variable (X : XArr F) (W : WArr F) (c : Dev nD)

theorem duties_bar : (rd X W).duties (barCell c) 0 = Finset.Ico 1 16 := rfl
theorem duties_bar_later (r : ℕ) (hr : 1 ≤ r) : (rd X W).duties (barCell c) r = ∅ := by
  show (if r = 0 then Finset.Ico 1 16 else ∅) = ∅
  exact if_neg (by omega)
theorem duties_dma (q : DmaSem sig) (r : ℕ) (h : r < nRounds q.val) : (rd X W).duties (dCell c q) r = {0} := by
  show (if r < nRounds q.val then {0} else ∅) = ({0} : Finset ℕ)
  exact if_pos h
theorem duties_dma_later (q : DmaSem sig) (r : ℕ) (h : nRounds q.val ≤ r) : (rd X W).duties (dCell c q) r = ∅ := by
  show (if r < nRounds q.val then {0} else ∅) = (∅ : Finset ℕ)
  exact if_neg (by omega)
theorem expect_bar : (rd X W).expect (barCell c) 0 = 15 := by
  show ∑ d ∈ Finset.Ico 1 16, 1 = 15
  rfl
/-- A round of a copies' cell expects the one copy's credit. -/
theorem expect_dma (q : DmaSem sig) (r : ℕ) (h : r < nRounds q.val) :
    (rd X W).expect (dCell c q) r = (rd X W).amount (dCell c q) r 0 := by
  unfold Schedule.expect Schedule.amountOf; rw [duties_dma X W c q r h, Finset.sum_singleton]
/-- The one payload of a round. -/
theorem rest_dma (q : DmaSem sig) (r : ℕ) (h : r < nRounds q.val) :
    bigSep ((rd X W).duties (dCell c q) r \ ∅) (fun d => (rd X W).payload (dCell c q) r d) = pays X W c q.val r := by
  rw [Finset.sdiff_empty, duties_dma X W c q r h, bigSep_singleton]; rfl
end Rd

/-! ## What is owed, and the levels -/

/-- What device `c` owes its peers' receiving cells from block `i` on; -/
def owedS (c : Dev nD) (i : ℕ) : CellTallies nD τ sig Unit :=
  ∑ j ∈ Finset.Ico i 16, tallyAt (dCell (peer c j) (recvS j)) () Nb
/-- their barrier cells from the `i`th peer on. -/
def owedB (c : Dev nD) (i : ℕ) : CellTallies nD τ sig Unit :=
  ∑ j ∈ Finset.Ico i 16, tallyAt (barCell (peer c j)) () 1

theorem owedS_step (c : Dev nD) (i : ℕ) (h : i < 16) :
    owedS c i = owedS c (i + 1) + tallyAt (dCell (peer c i) (recvS i)) () Nb := by
  unfold owedS; rw [Ring.sum_Ico_succ h, add_comm]
theorem owedB_step (c : Dev nD) (i : ℕ) (h : i < 16) :
    owedB c i = owedB c (i + 1) + tallyAt (barCell (peer c i)) () 1 := by
  unfold owedB; rw [Ring.sum_Ico_succ h, add_comm]
theorem owedS_end (c : Dev nD) : owedS c 16 = 0 := by unfold owedS; rw [Finset.Ico_self, Finset.sum_empty]
theorem owedB_end (c : Dev nD) : owedB c 16 = 0 := by unfold owedB; rw [Finset.Ico_self, Finset.sum_empty]

def L (g : GSem nD τ sig) : Finset Unit := if g.1.2 = .tc then {()} else ∅
/-- Barrier cells at one, receiving cells at two, all others at zero. -/
def lv (g : GSem nD τ sig) (_ : Unit) : ℕ := match g.2 with
  | .reg _ => 1
  | .dma q => if 17 ≤ q.val ∧ q.val < 33 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : ℕ) : lv (dCell c (recvS j)) () = 2 :=
  if_pos (by have := recvS_val j; omega)

/-- A sum of tallies is positive only where one of them is. -/
theorem sum_tally_pos {S : Finset ℕ} {f : ℕ → GSem nD τ sig} {n : ℕ} {g : GSem nD τ sig} {u : Unit}
    (h : 0 < (∑ j ∈ S, tallyAt (f j) () n : CellTallies nD τ sig Unit) g u) : ∃ j ∈ S, g = f j := by
  by_contra hn
  rw [Finset.sum_apply, Finsupp.finset_sum_apply, Finset.sum_eq_zero] at h
  · exact Nat.lt_irrefl 0 h
  · intro j hj
    rw [tallyAt_apply]
    exact if_neg fun h' => hn ⟨j, hj, h'.1⟩

theorem owedS_pos {c : Dev nD} {i : ℕ} {g : GSem nD τ sig} {u : Unit} (h : 0 < owedS c i g u) :
    g.1.2 = .tc ∧ lv g u = 2 := by
  obtain ⟨j, -, rfl⟩ := sum_tally_pos h
  exact ⟨rfl, lv_recv _ _⟩
theorem owedB_pos {c : Dev nD} {i : ℕ} {g : GSem nD τ sig} {u : Unit} (h : 0 < owedB c i g u) :
    g.1.2 = .tc ∧ lv g u = 1 := by
  obtain ⟨j, -, rfl⟩ := sum_tally_pos h
  exact ⟨rfl, rfl⟩

/-- A device may wait on a cell below all it owes. -/
theorem mayWait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- A copies' cell other than a receiving one may be waited on whatever blocks are owed. -/
theorem mayWait_low (c : Dev nD) (q : DmaSem sig) (hq : q.val < 17 ∨ 33 ≤ q.val) (i : ℕ) :
    (levAts L lv : sProp 𝕄) ⊢ MayWait (c : Thread nD τ) (.dma q) () (owedS c i) :=
  mayWait c _ _ fun g u hg => ⟨(owedS_pos hg).1, by
    rw [(owedS_pos hg).2]
    show (if 17 ≤ q.val ∧ q.val < 33 then 2 else 0) < 2
    rw [if_neg (by omega)]; decide⟩
/-- The barrier likewise. -/
theorem mayWait_bar (c : Dev nD) (i : ℕ) :
    (levAts L lv : sProp 𝕄) ⊢ MayWait (c : Thread nD τ) (.reg barS) () (owedS c i) :=
  mayWait c _ _ fun g u hg => ⟨(owedS_pos hg).1, by rw [(owedS_pos hg).2]; show 1 < 2; decide⟩
/-- With nothing owed, any cell. -/
theorem mayWait_none (c : Dev nD) (sm : SemLoc sig) :
    (levAts L lv : sProp 𝕄) ⊢ MayWait (c : Thread nD τ) sm () 0 :=
  mayWait c _ _ fun g u hg => absurd hg (Nat.lt_irrefl 0)

/-! ## What every device knows -/

/-- Every cell's invariant, that every cell has reached its first round, and the levels. -/
def known (X : XArr F) (W : WArr F) (K : Dev nD × Fin 39 → ℕ) : sProp 𝕄 :=
  iprop((bigSep Finset.univ fun ck => cellInv ER (rd X W) (K ck) (kcell ck))
    ∗ (bigSep Finset.univ fun ck => reached ER (kcell ck) 0) ∗ levAts L lv)

instance known_persistent (X : XArr F) (W : WArr F) (K : Dev nD × Fin 39 → ℕ) :
    BI.Persistent (known X W K) := by unfold known; infer_instance

section Known
variable (X : XArr F) (W : WArr F) (K : Dev nD × Fin 39 → ℕ)

theorem known_inv (ck : Dev nD × Fin 39) : known X W K ⊢ cellInv ER (rd X W) (K ck) (kcell ck) := by
  unfold known; exact sep_elim_left.trans (bigSep_elim (Finset.mem_univ ck))
theorem known_reached (ck : Dev nD × Fin 39) : known X W K ⊢ reached ER (kcell ck) 0 := by
  unfold known; exact sep_elim_right.trans (sep_elim_left.trans (bigSep_elim (Finset.mem_univ ck)))
theorem known_lev {P : sProp (MT nD τ sig Unit (Elt F) ℕ UU ℕ)}
    (h : (levAts L lv : sProp (MT nD τ sig Unit (Elt F) ℕ UU ℕ)) ⊢ P) : known X W K ⊢ P := by
  refine BIBase.Entails.trans ?_ h
  unfold known; iintro ⟨-, -, H⟩; iexact H

theorem kcell_dma (c : Dev nD) (q : DmaSem sig) (hq : q.val ≠ 0) : kcell (c, q) = dCell c q :=
  Prod.ext rfl (if_neg fun h => hq (congrArg Fin.val h))
theorem dma_inv (c : Dev nD) (q : DmaSem sig) (hq : q.val ≠ 0) :
    known X W K ⊢ cellInv ER (rd X W) (K (c, q)) (dCell c q) := by
  rw [← kcell_dma c q hq]; exact known_inv X W K (c, q)
theorem dma_reached (c : Dev nD) (q : DmaSem sig) (hq : q.val ≠ 0) : known X W K ⊢ reached ER (dCell c q) 0 := by
  rw [← kcell_dma c q hq]; exact known_reached X W K (c, q)
theorem bar_inv (c : Dev nD) : known X W K ⊢ cellInv ER (rd X W) (K (c, 0)) (barCell c) := known_inv X W K (c, 0)
theorem bar_reached (c : Dev nD) : known X W K ⊢ reached ER (barCell c) 0 := known_reached X W K (c, 0)
end Known

end Cert.KernelIdeal.A2A
-- ==== Proof.Slots.lean ====
/-
Steps of the kernel as statements about what a device holds before and after, and the copies into a ring
of slots: a copy into a free slot starts; awaiting it gives the slot at the block copied, and the source
back.
-/
module

public import proofs.«01_k».proof.Proof.Sched

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev WP (c : Dev nD) (p : TcProg F PUnit) (Q : sProp 𝕄) : sProp 𝕄 :=
  wp frame (wpE (defs₀ (F := F)) 𝒱₀ (c : Thread nD τ) none) Set.univ p (fun _ => Q)

/-- Device `c` owes `O`. -/
def owing (c : Dev nD) (O : CellTallies nD τ sig Unit) : sProp 𝕄 := iprop(∃ W, owes (c : Thread nD τ) O W)

/-- From `P` the program of device `c` runs to `Q`. -/
def Step (X : XArr F) (W : WArr F) (K : Dev nD × Fin 39 → ℕ) (c : Dev nD) (P : sProp 𝕄) (p : TcProg F PUnit) (Q : sProp 𝕄) : Prop :=
  iprop(known X W K ∗ P) ⊢ WP c p Q

section Rules
variable {X : XArr F} {W : WArr F} {K : Dev nD × Fin 39 → ℕ} {c : Dev nD}
variable {P P' Q Q' R : sProp (MT nD τ sig Unit (Elt F) ℕ UU ℕ)} {p q : TcProg F PUnit}

theorem Step.entails (h : Step X W K c P p Q) : iprop(known X W K ∗ P) ⊢ WP c p Q := h
/-- Doing nothing. -/
theorem Step.pure : Step X W K c P (pure PUnit.unit) P := by
  unfold Step WP
  show _ ⊢ wp _ _ _ (Prog.ret PUnit.unit) _
  rw [wp_ret]; iintro ⟨-, H⟩; imodintro; iexact H
/-- One program after another. -/
theorem Step.seq (h₁ : Step X W K c P p Q) (h₂ : Step X W K c Q q R) : Step X W K c P (p >>= fun _ => q) R := by
  unfold Step WP at *
  rw [wp_bind]
  iintro ⟨#HK, HP⟩
  ihave H := h₁ $$ [HP]
  · isplitr; · iexact HK
    iexact HP
  iapply (wp_wand _ _ _ ) $$ H
  iintro %_ HQ
  iapply h₂
  isplitr; · iexact HK
  iexact HQ
/-- What a program does not use stays. -/
theorem Step.frame (h : Step X W K c P p Q) : Step X W K c iprop(P ∗ R) p iprop(Q ∗ R) := by
  unfold Step WP at *
  iintro ⟨#HK, HP, HR⟩
  ihave H := h $$ [HP]
  · isplitr; · iexact HK
    iexact HP
  iapply (wp_wand _ _ _ ) $$ H
  iintro %_ HQ
  isplitl [HQ]; · iexact HQ
  iexact HR
/-- Weaker before, stronger after. -/
theorem Step.conseq (hP : P' ⊢ P) (hQ : Q ⊢ Q') (h : Step X W K c P p Q) : Step X W K c P' p Q' := by
  unfold Step WP at *
  iintro ⟨#HK, HP⟩
  ihave HP := hP $$ HP
  ihave H := h $$ [HP]
  · isplitr; · iexact HK
    iexact HP
  iapply (wp_wand _ _ _ ) $$ H
  iintro %_ HQ
  iapply hQ; iexact HQ
/-- A loop keeps what each of its steps takes from its place to the next. -/
theorem Step.loop {f : ℕ → TcProg F PUnit} (I : ℕ → sProp (MT nD τ sig Unit (Elt F) ℕ UU ℕ)) :
    ∀ n a : ℕ, (∀ i, a ≤ i → i < a + n → Step X W K c (I i) (f i) (I (i + 1))) →
      Step X W K c (I a) (steps f n a) (I (a + n))
  | 0, _, _ => Step.pure
  | n + 1, a, h => by
    have h2 := Step.loop I n (a + 1) fun i h1 h2 => h i (by omega) (by omega)
    rw [show a + 1 + n = a + (n + 1) by omega] at h2
    exact (h a (Nat.le_refl _) (by omega)).seq h2

/-! ## Copies -/

theorem credit_st (s : ℕ) : (stV s).view.dmaCredit = Nst := rfl
theorem credit_rv (j : ℕ) : (rvV j).view.dmaCredit = Nb := rfl
theorem credit_sd (j : ℕ) : (sdV j).view.dmaCredit = Nb := rfl
theorem credit_wb (s : ℕ) : (wbV s).view.dmaCredit = Nw := rfl

variable (X W c) in
theorem amount_blk (q : DmaSem sig) (h : q.val < 33) {r : ℕ} : (rd X W).amount (dCell c q) r 0 = Nb := if_pos h
variable (X W c) in
theorem amount_st (q : DmaSem sig) (h : 33 ≤ q.val) (h' : q.val < 37) {r : ℕ} : (rd X W).amount (dCell c q) r 0 = Nst :=
  (if_neg (by omega)).trans (if_pos h')
variable (X W c) in
theorem amount_w (q : DmaSem sig) (h : 37 ≤ q.val) {r : ℕ} : (rd X W).amount (dCell c q) r 0 = Nw :=
  (if_neg (by omega)).trans (if_neg (by omega))

/-- A copy within the device starts: its cell's duty of the round is paid by the destination at what the
    source reads, and the source. -/
theorem copy_start {sp sp' : Space} {s : Shape} {e : EltTy} {src : Memref sig .tc sp s e} {dst : Memref sig .tc sp' s e}
    {q : DmaSem sig} {hsrc : src.view.WordExact} {hdst : dst.view.WordExact}
    {hsem : DmaTarget.Typed sp (.dma q) (DmaTarget.here (nD := nD) (p := (Proc.tc : Proc τ)) dst)} {r : ℕ} (N : ℕ) (hq : q.val ≠ 0)
    (hr : r < nRounds q.val) (f : src.view.ty.Contents (Elt F)) (hN : dst.view.dmaCredit = N)
    (hA : (rd X W).amount (dCell c q) r 0 = N)
    (hp : iprop(reads c dst (src.view.read (Elt F) f) ∗ held c src f) ⊢ pays X W c q.val r) :
    Step X W K c iprop(held c src f ∗ any c dst ∗ dutyTok ER (dCell c q) r 0 ∗ reached ER (dCell c q) r)
      (Prog.lift (.enqueueDma src (.here dst) (.dma q) hsrc hdst hsem)) (cred (tallyAt (dCell c q) () N)) := by
  unfold Step WP any held
  simp only [Prog.lift]
  iintro ⟨#HK, Hs, ⟨%fd, Hd⟩, Ht, Hr⟩
  ihave #HI := (dma_inv X W K c q hq) $$ HK
  iapply (Rounds.wp_copy_pointsTo 𝒱₀ ER (rd X W) (c : Thread nD τ) none (κ := K (c, q)) (r := r) (d := 0) (q := fullShare) (src := src) (dst := dst) (sem := .dma q) (fs := f) (fd := fd)
    (by rw [duties_dma X W c q r hr]; exact Finset.mem_singleton_self _) () N hN hA
    (by
      refine BIBase.Entails.trans ?_ hp
      unfold held reads
      iintro ⟨Hd, Hs⟩
      isplitl [Hd]
      · unfold owns; iexists (dst.view.write (Elt F) fd (src.view.read (Elt F) f) Finset.univ)
        isplitr; · ipureintro; exact View.read_write_univ _ _
        iexact Hd
      iexact Hs)) $$ [Hs Hd Ht Hr]
  · isplitr; · iexact HI
    isplitl [Hs]; · iexact Hs
    isplitl [Hd]; · iexact Hd
    isplitl [Ht]; · iexact Ht
    iexact Hr
  iintro Hc
  rw [wp_ret]; imodintro; iexact Hc

/-- A copies' cell is awaited: what its round's one contribution hands over. -/
theorem dma_wait {sp sp' : Space} {s s' : Shape} {e e' : EltTy} {src : Memref sig .tc sp' s' e'} {dst : Memref sig .tc sp s e}
    {q : DmaSem sig} {hsrc : src.view.WordExact} {hdst : dst.view.WordExact} {r : ℕ} (N : ℕ) (hq : q.val ≠ 0)
    (hr : r < nRounds q.val) (hN : dst.view.dmaCredit = N) (hA : (rd X W).amount (dCell c q) r 0 = N)
    (O : CellTallies nD τ sig Unit) (hO : (levAts L lv : sProp (MT nD τ sig Unit (Elt F) ℕ UU ℕ)) ⊢ MayWait (c : Thread nD τ) (.dma q) () O) :
    Step X W K c iprop(cred (tallyAt (dCell c q) () N) ∗ atPos ER (dCell c q) r ∅ 0 ∗ owing c O)
      (Prog.lift (.waitDma2 q src dst hsrc hdst))
      iprop(pays X W c q.val r ∗ atPos ER (dCell c q) (r + 1) ∅ 0 ∗ reached ER (dCell c q) (r + 1) ∗ owing c O) := by
  unfold Step WP owing
  simp only [Prog.lift]
  subst hN
  have hm := known_lev X W K hO
  iintro ⟨#HK, Hc, Ha, ⟨%Wt, Ho⟩⟩
  ihave #HI := (dma_inv X W K c q hq) $$ HK
  iapply (Rounds.wp_wait_rest_token 𝒱₀ ER (rd X W) (c : Thread nD τ) none (κ := K (c, q))
      (wpE_waitDma2_eq 𝒱₀ (c : Thread nD τ) none Set.univ) (Set.mem_univ _) () (O := O) (W := Wt) (R := r) (m := 0) (T := ∅)
      (by rw [Nat.zero_add, expect_dma X W c q r hr, hA])) $$ [Hc Ho Ha]
  · isplitr; · iexact HI
    isplitl [Hc]; · iexact Hc
    isplitl [Ho]; · iexact Ho
    isplitr; · iapply hm; iexact HK
    iexact Ha
  iintro ⟨Ho, Ha, Hr, Hp⟩
  ihave Hp := (Entails.of_eq (rest_dma X W c q r hr)) $$ Hp
  rw [wp_ret]; imodintro
  isplitl [Hp]; · iexact Hp
  isplitl [Ha]; · iexact Ha
  isplitl [Hr]; · iexact Hr
  iexists _; iexact Ho

/-- A block is sent: both cells' duties are paid, the peer's receiving block at what was read. -/
theorem send_step (f : (sdM : Memref sig .tc .vmem S16x512x512 .bf16).view.ty.Contents (Elt F)) {j : ℕ} (h1 : 1 ≤ j) (h2 : j < 16)
    (hp : reads (peer c j) (rvV j) ((sdV j).view.read (Elt F) f) ⊢ pays X W (peer c j) (recvS j).val 0) :
    Step X W K c iprop(held c (sdV j) f ∗ any (peer c j) (rvV j) ∗ dutyTok ER (dCell c (sendS j)) 0 0
        ∗ dutyTok ER (dCell (peer c j) (recvS j)) 0 0 ∗ owing c (owedS c j))
      (send c j) iprop(cred (tallyAt (dCell c (sendS j)) () Nb) ∗ owing c (owedS c (j + 1))) := by
  have hs := sendS_val j
  have hr := recvS_val j
  unfold Step WP any held owing send
  simp only [Prog.lift]
  iintro ⟨#HK, Hs, ⟨%fd, Hd⟩, Ht, Ht', ⟨%Wt, Ho⟩⟩
  ihave #HI := (dma_inv X W K c (sendS j) (by omega)) $$ HK
  ihave #HI' := (dma_inv X W K (peer c j) (recvS j) (by omega)) $$ HK
  ihave #HR := (dma_reached X W K c (sendS j) (by omega)) $$ HK
  ihave #HR' := (dma_reached X W K (peer c j) (recvS j) (by omega)) $$ HK
  have n1 : 0 < nRounds (sendS j).val := by unfold nRounds; rw [if_neg (by omega), if_pos (by omega)]; decide
  have n2 : 0 < nRounds (recvS j).val := by unfold nRounds; rw [if_neg (by omega), if_pos (by omega)]; decide
  iapply (Rounds.wp_send_pointsTo 𝒱₀ ER (rd X W) (c : Thread nD τ) none (κ₁ := K (c, sendS j)) (κ₂ := K (peer c j, recvS j))
    (r₁ := 0) (r₂ := 0) (d₁ := 0) (d₂ := 0) (c' := (peer c j : Thread nD τ)) (src := sdV j) (dst := rvV j) (sS := .dma (sendS j)) (sem := .dma (recvS j)) (fs := f) (fd := fd) (W := Wt)
    (by rw [duties_dma X W c _ 0 n1]; exact Finset.mem_singleton_self _)
    (by rw [duties_dma X W (peer c j) _ 0 n2]; exact Finset.mem_singleton_self _)
    () () Nb (credit_rv j) (amount_blk X W c _ (by omega)) (amount_blk X W (peer c j) _ (by omega))
    (owedS c (j + 1)) (owedS_step c j h2)
    (by
      show _ ⊢ pays X W c (sendS j).val 0
      unfold pays
      rw [if_pos (by omega), show (sendS j).val - 1 = j by omega]
      unfold any held
      iintro H; iexists _; iexact H)
    (by
      refine BIBase.Entails.trans ?_ hp
      unfold reads owns
      iintro Hd
      iexists ((rvV j).view.write (Elt F) fd ((sdV j).view.read (Elt F) f) Finset.univ)
      isplitr; · ipureintro; exact View.read_write_univ _ _
      iexact Hd)) $$ [Hs Hd Ht Ht' Ho]
  · isplitr; · iexact HI
    isplitr; · iexact HI'
    isplitl [Hs]; · iexact Hs
    isplitl [Hd]; · iexact Hd
    isplitl [Ho]; · iexact Ho
    isplitl [Ht]; · iexact Ht
    isplitr; · iexact HR
    isplitl [Ht']; · iexact Ht'
    iexact HR'
  iintro ⟨Hc, Ho⟩
  rw [wp_ret]; imodintro
  isplitl [Hc]; · iexact Hc
  iexists _; iexact Ho

/-! ## Loads and stores of slots -/

/-- A block of a buffer is loaded with its axis of size one: the slot's matrix, re-indexed. -/
theorem load_slot {sp : CoreSpace} {s s' : Shape} {e : EltTy} {M : Memref sig .tc sp s e} {r : Rect s} {hl : M.view.LoadsAt r.toLoadRect}
    {hu : ∀ a, r.stride a = 1} (hs : r.shape.Squeezes s') {Y : s'.Idx → Elt F e} {Φ : PUnit → sProp (MT nD τ sig Unit (Elt F) ℕ UU ℕ)}
    {k : (r.shape.Idx → Elt F e) → TcProg F PUnit} :
    reads c ((M.slice r hu).squeeze s' hs) Y
      ⊢ iprop((reads c ((M.slice r hu).squeeze s' hs) Y
          -∗ wp frame (wpE (defs₀ (F := F)) 𝒱₀ (c : Thread nD τ) none) Set.univ
              (k fun y => Y ((Shape.reshapeEquiv hs.numel_eq).symm y)) Φ)
        -∗ wp frame (wpE (defs₀ (F := F)) 𝒱₀ (c : Thread nD τ) none) Set.univ (.op (.load M r.toLoadRect hl) k) Φ) := by
  unfold reads owns
  iintro ⟨%f, %hf, Hf⟩ Hk
  subst hf
  have hset : ((M.slice r hu).squeeze s' hs).view.set = (M.access r).set := View.set_reshape _ _
  have hy : (fun y => ((M.slice r hu).squeeze s' hs).view.read (Elt F) f ((Shape.reshapeEquiv hs.numel_eq).symm y))
      = (M.access r).read (Elt F) f := by
    funext y
    show (M.access r).read (Elt F) f (Shape.reshapeEquiv hs.numel_eq ((Shape.reshapeEquiv hs.numel_eq).symm y)) = _
    rw [Equiv.apply_symm_apply]
  rw [hy]
  iapply (wp_load_rect 𝒱₀ (c : Thread nD τ) none Set.univ (m := M) (r := r) (by rw [hset])) $$ Hf
  iintro Hf
  iapply Hk
  iexists f
  isplitr; · ipureintro; rfl
  iexact Hf

/-- A matrix stored, with its axis of size one, into a block of a buffer: the slot reads it. -/
theorem store_slot {sp : CoreSpace} {s s' : Shape} {e : EltTy} {M : Memref sig .tc sp s e} {r : Rect s}
    {w : r.shape.Idx → Elt F e} {hx : (M.access r).Stores Finset.univ} {hm : (Finset.univ : Finset r.shape.Idx) = Finset.univ ∨ ∀ a, r.stride a = 1}
    {hu : ∀ a, r.stride a = 1} (hs : r.shape.Squeezes s') {Φ : PUnit → sProp (MT nD τ sig Unit (Elt F) ℕ UU ℕ)}
    {k : PUnit → TcProg F PUnit} :
    any c ((M.slice r hu).squeeze s' hs)
      ⊢ iprop((reads c ((M.slice r hu).squeeze s' hs) (fun x => w (Shape.reshapeEquiv hs.numel_eq x))
          -∗ wp frame (wpE (defs₀ (F := F)) 𝒱₀ (c : Thread nD τ) none) Set.univ (k ⟨⟩) Φ)
        -∗ wp frame (wpE (defs₀ (F := F)) 𝒱₀ (c : Thread nD τ) none) Set.univ (.op (.store M r w Finset.univ hx hm) k) Φ) := by
  unfold any held reads owns
  iintro ⟨%f, Hf⟩ Hk
  have hset : ((M.slice r hu).squeeze s' hs).view.set = (M.access r).set := View.set_reshape _ _
  iapply (wp_store 𝒱₀ (c : Thread nD τ) none Set.univ (m := M) (r := r) (Mk := Finset.univ)
    (by rw [View.setOn_univ, hset])) $$ Hf
  iintro Hf
  iapply Hk
  iexists ((M.access r).write (Elt F) f w Finset.univ)
  isplitr
  · ipureintro; funext x
    exact congrFun (View.read_write_univ (v := M.access r) f w) (Shape.reshapeEquiv hs.numel_eq x)
  iexact Hf

/-- A block of a buffer is loaded as it is. -/
theorem load_rect {sp : CoreSpace} {s : Shape} {e : EltTy} {M : Memref sig .tc sp s e} {r : Rect s} {hl : M.view.LoadsAt r.toLoadRect}
    {hu : ∀ a, r.stride a = 1} {Y : r.shape.Idx → Elt F e} {Φ : PUnit → sProp (MT nD τ sig Unit (Elt F) ℕ UU ℕ)}
    {k : (r.shape.Idx → Elt F e) → TcProg F PUnit} :
    reads c (M.slice r hu) Y
      ⊢ iprop((reads c (M.slice r hu) Y -∗ wp frame (wpE (defs₀ (F := F)) 𝒱₀ (c : Thread nD τ) none) Set.univ (k Y) Φ)
        -∗ wp frame (wpE (defs₀ (F := F)) 𝒱₀ (c : Thread nD τ) none) Set.univ (.op (.load M r.toLoadRect hl) k) Φ) := by
  unfold reads owns
  iintro ⟨%f, %hf, Hf⟩ Hk
  subst hf
  iapply (wp_load_rect 𝒱₀ (c : Thread nD τ) none Set.univ (m := M) (r := r) subset_rfl) $$ Hf
  iintro Hf
  iapply Hk
  iexists f
  isplitr; · ipureintro; rfl
  iexact Hf

/-- A block of a buffer is stored as it is. -/
theorem store_rect {sp : CoreSpace} {s : Shape} {e : EltTy} {M : Memref sig .tc sp s e} {r : Rect s}
    {w : r.shape.Idx → Elt F e} {hx : (M.access r).Stores Finset.univ} {hm : (Finset.univ : Finset r.shape.Idx) = Finset.univ ∨ ∀ a, r.stride a = 1}
    {hu : ∀ a, r.stride a = 1} {Y : r.shape.Idx → Elt F e} {Φ : PUnit → sProp (MT nD τ sig Unit (Elt F) ℕ UU ℕ)}
    {k : PUnit → TcProg F PUnit} :
    reads c (M.slice r hu) Y
      ⊢ iprop((reads c (M.slice r hu) w
          -∗ wp frame (wpE (defs₀ (F := F)) 𝒱₀ (c : Thread nD τ) none) Set.univ (k ⟨⟩) Φ)
        -∗ wp frame (wpE (defs₀ (F := F)) 𝒱₀ (c : Thread nD τ) none) Set.univ (.op (.store M r w Finset.univ hx hm) k) Φ) := by
  unfold reads owns
  iintro ⟨%f, -, Hf⟩ Hk
  iapply (wp_store 𝒱₀ (c : Thread nD τ) none Set.univ (m := M) (r := r) (Mk := Finset.univ)
    (by rw [View.setOn_univ])) $$ Hf
  iintro Hf
  iapply Hk
  iexists ((M.access r).write (Elt F) f w Finset.univ)
  isplitr; · ipureintro; exact View.read_write_univ f w
  iexact Hf
end Rules

end Cert.KernelIdeal.A2A
-- ==== Proof.Copies.lean ====
/-
Copies into a ring of slots. Copy `k` goes into slot `k mod n`, on the slot's semaphore, as the round
`k / n` of that semaphore's cell. A slot is free, in flight, or full; the next copy into it is number
`k + n`. The staging of the activations and the fetching of the weights are the two instances.
-/
module

public import proofs.«01_k».proof.Proof.Slots

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `m` copies of device `c` into `n` slots. -/
structure Copies (X : XArr F) (W : WArr F) (c : Dev nD) where
  sp : Space
  sp' : Space
  s : Shape
  e : EltTy
  src : ℕ → Memref sig .tc sp s e
  dst : ℕ → Memref sig .tc sp' s e
  q : ℕ → DmaSem sig
  n : ℕ
  m : ℕ
  N : ℕ
  f : ∀ k, (src k).view.ty.Contents (Elt F)
  n_pos : 0 < n
  dst_add : ∀ k, dst (k + n) = dst k
  q_add : ∀ k, q (k + n) = q k
  q_ge : ∀ k, 33 ≤ (q k).val
  rounds : ∀ k, k < m → k / n < nRounds (q k).val
  credit : ∀ k, (dst k).view.dmaCredit = N
  amount : ∀ k r, (rd X W).amount (dCell c (q k)) r 0 = N
  pays_eq : ∀ k, k < m → pays X W c (q k).val (k / n)
    = iprop(reads c (dst k) ((src k).view.read (Elt F) (f k)) ∗ held c (src k) (f k))

namespace Copies

variable {X : XArr F} {W : WArr F} {K : Dev nD × Fin 39 → ℕ} {c : Dev nD} (C : Copies X W c)

/-- Slot of copy `k` waits for it. -/
def free (k : ℕ) : sProp 𝕄 :=
  iprop(any c (C.dst k) ∗ atPos ER (dCell c (C.q k)) (k / C.n) ∅ 0 ∗ reached ER (dCell c (C.q k)) (k / C.n))
/-- Copy `k` has started. -/
def fly (k : ℕ) : sProp 𝕄 :=
  iprop(cred (tallyAt (dCell c (C.q k)) () C.N) ∗ atPos ER (dCell c (C.q k)) (k / C.n) ∅ 0)
/-- Its slot holds what was copied. -/
def full (k : ℕ) : sProp 𝕄 := reads c (C.dst k) ((C.src k).view.read (Elt F) (C.f k))
/-- What awaiting it gives besides: the source, and the cell at the next round. -/
def back (k : ℕ) : sProp 𝕄 := held c (C.src k) (C.f k)
def next (k : ℕ) : sProp 𝕄 :=
  iprop(atPos ER (dCell c (C.q k)) (k / C.n + 1) ∅ 0 ∗ reached ER (dCell c (C.q k)) (k / C.n + 1))
/-- What starting it needs besides the slot, if there is such a copy. -/
def todo (k : ℕ) : sProp 𝕄 :=
  if k < C.m then iprop(dutyTok ER (dCell c (C.q k)) (k / C.n) 0 ∗ held c (C.src k) (C.f k)) else iprop(emp)
/-- The slot once copy `k` has started, if there is such a copy. -/
def slot (k : ℕ) : sProp 𝕄 := if k < C.m then C.fly k else C.free k

/-- Past the last copy a slot is free. -/
theorem slot_free (k : ℕ) (hk : ¬ k < C.m) : C.slot k = C.free k := by unfold slot; rw [if_neg hk]

theorem div_add (k : ℕ) : (k + C.n) / C.n = k / C.n + 1 := Nat.add_div_right k C.n_pos

/-- A full slot, read, is free for the next copy into it. -/
theorem full_free (k : ℕ) : iprop(C.full k ∗ C.next k) ⊢ C.free (k + C.n) := by
  unfold full next free
  rw [C.dst_add, C.q_add, C.div_add]
  unfold reads owns any held
  iintro ⟨⟨%f, -, Hf⟩, Ha, Hr⟩
  isplitl [Hf]; · iexists f; iexact Hf
  isplitl [Ha]; · iexact Ha
  iexact Hr

/-- A copy starts. -/
theorem start (k : ℕ) (hk : k < C.m) {h₁ : (C.src k).view.WordExact} {h₂ : (C.dst k).view.WordExact}
    {h₃ : DmaTarget.Typed C.sp (.dma (C.q k)) (DmaTarget.here (nD := nD) (p := (Proc.tc : Proc τ)) (C.dst k))} :
    Step X W K c iprop(C.free k ∗ C.todo k)
      (Prog.lift (.enqueueDma (C.src k) (.here (C.dst k)) (.dma (C.q k)) h₁ h₂ h₃)) (C.slot k) := by
  have hq := C.q_ge k
  unfold slot todo; rw [if_pos hk, if_pos hk]
  unfold fly
  refine Step.conseq (P := iprop((held c (C.src k) (C.f k) ∗ any c (C.dst k) ∗ dutyTok ER (dCell c (C.q k)) (k / C.n) 0
      ∗ reached ER (dCell c (C.q k)) (k / C.n)) ∗ atPos ER (dCell c (C.q k)) (k / C.n) ∅ 0)) ?_ (BIBase.Entails.of_eq rfl)
    (Step.frame (copy_start C.N (by omega) (C.rounds k hk) (C.f k) (C.credit k) (C.amount k _) (Entails.of_eq (C.pays_eq k hk).symm)))
  unfold free
  iintro ⟨⟨Hd, Ha, Hr⟩, Ht, Hs⟩
  isplitr [Ha]
  · isplitl [Hs]; · iexact Hs
    isplitl [Hd]; · iexact Hd
    isplitl [Ht]; · iexact Ht
    iexact Hr
  iexact Ha

/-- Past the last copy nothing starts. -/
theorem start_none (k : ℕ) (hk : ¬ k < C.m) : Step X W K c iprop(C.free k ∗ C.todo k) (pure PUnit.unit) (C.slot k) := by
  refine Step.conseq (P := C.free k) ?_ ?_ Step.pure
  · iintro ⟨H, -⟩; iexact H
  · unfold slot; rw [if_neg hk]

/-- A copy is awaited, whatever blocks are still to be sent. -/
theorem wait (k : ℕ) (hk : k < C.m) (i : ℕ) {s' : Shape} {sp' : Space} {e' : EltTy} {src : Memref sig .tc sp' s' e'}
    {h₁ : src.view.WordExact} {h₂ : (C.dst k).view.WordExact} :
    Step X W K c iprop(C.slot k ∗ owing c (owedS c i)) (Prog.lift (.waitDma2 (C.q k) src (C.dst k) h₁ h₂))
      iprop((C.full k ∗ C.next k) ∗ C.back k ∗ owing c (owedS c i)) := by
  have hq := C.q_ge k
  unfold slot; rw [if_pos hk]; unfold fly full next back
  refine Step.conseq ?_ ?_ (dma_wait (r := k / C.n) C.N (by omega) (C.rounds k hk) (C.credit k) (C.amount k _) (owedS c i)
    (mayWait_low c (C.q k) (by omega) i))
  · iintro ⟨⟨Hc, Ha⟩, Ho⟩
    isplitl [Hc]; · iexact Hc
    isplitl [Ha]; · iexact Ha
    iexact Ho
  · rw [C.pays_eq k hk]
    iintro ⟨⟨Hd, Hs⟩, Ha, Hr, Ho⟩
    isplitl [Hd Ha Hr]
    · isplitl [Hd]; · iexact Hd
      isplitl [Ha]; · iexact Ha
      iexact Hr
    isplitl [Hs]; · iexact Hs
    iexact Ho

end Copies

/-! ## The two instances -/

/-- A slot depends on its place only. -/
theorem slot_congr {sp : Space} {s s' : Shape} {e : EltTy} (M : Memref sig .tc sp s e) {off off' size : Fin s.rank → ℕ}
    (h : off = off') (p : ∀ a, off a + size a ≤ s.size a) (p' : ∀ a, off' a + size a ≤ s.size a)
    (hs : Shape.Squeezes ⟨s.rank, size⟩ s') :
    (M.slice (Rect.unit off size p) (fun _ => rfl)).squeeze s' hs
      = (M.slice (Rect.unit off' size p') (fun _ => rfl)).squeeze s' hs := by
  subst h; rfl
theorem stV_add (s : ℕ) : stV (s + 4) = stV s := slot_congr stM (by rw [Nat.add_mod_right]) _ _ _
theorem wbV_add (s : ℕ) : wbV (s + 2) = wbV s := slot_congr wbM (by rw [Nat.add_mod_right]) _ _ _
theorem stS_add (s : ℕ) : stS (s + 4) = stS s := by rw [← stS_mod, Nat.add_mod_right, stS_mod]
theorem wS_add (s : ℕ) : wS (s + 2) = wS s := by rw [← wS_mod, Nat.add_mod_right, wS_mod]

/-- The staging copies. -/
def xCopies (X : XArr F) (W : WArr F) (c : Dev nD) : Copies X W c where
  sp := .hbm
  sp' := .vmem
  s := S512x512
  e := .f32
  src k := xV c (k + 1)
  dst := stV
  q := stS
  n := 4
  m := 16
  N := Nst
  f _ := X c
  n_pos := by decide
  dst_add := stV_add
  q_add := stS_add
  q_ge k := by rw [stS_val]; omega
  rounds k hk := by
    unfold nRounds
    rw [stS_val, if_neg (by omega), if_neg (by omega), if_pos (by omega)]; omega
  credit _ := rfl
  amount k r := amount_st X W c _ (by rw [stS_val]; omega) (by rw [stS_val]; omega)
  pays_eq k hk := by
    unfold pays
    have h := stS_val k
    rw [if_neg (by omega), if_neg (by omega), if_pos (by omega), show (stS k).val - 33 + 4 * (k / 4) = k by omega]
    rfl

/-- The weights' copies. -/
def wCopies (X : XArr F) (W : WArr F) (c : Dev nD) : Copies X W c where
  sp := .hbm
  sp' := .vmem
  s := S512x2048
  e := .f32
  src k := wV c k
  dst := wbV
  q := wS
  n := 2
  m := 32
  N := Nw
  f _ := W c
  n_pos := by decide
  dst_add := wbV_add
  q_add := wS_add
  q_ge k := by rw [wS_val]; omega
  rounds k hk := by
    unfold nRounds
    rw [wS_val, if_neg (by omega), if_neg (by omega), if_neg (by omega)]; omega
  credit _ := rfl
  amount k r := amount_w X W c _ (by rw [wS_val]; omega)
  pays_eq k hk := by
    unfold pays
    have h := wS_val k
    rw [if_neg (by omega), if_neg (by omega), if_neg (by omega), show (wS k).val - 37 + 2 * (k / 2) = k by omega]
    rfl

end Cert.KernelIdeal.A2A
-- ==== Proof.Stage.lean ====
/-
The staging loop: what a device holds before each of its sixteen steps. A step starts a staging copy,
awaits another, rounds the block staged and sends it; the last block is the device's own and stays.
-/
module

public import proofs.«01_k».proof.Proof.Copies
public import Idealize.SL.BI.BigOpNat

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : XArr F} {W : WArr F} {K : Dev nD × Fin 39 → ℕ} {c : Dev nD}

/-- Going round the ring. -/
theorem peer_back (c : Dev nD) (j : ℕ) (hj : j ≤ 16) : peer (peer c j) (16 - j) = c := by
  apply Fin.ext
  have hc : c.val < 16 := c.isLt
  rw [peer_val, peer_val]; omega

/-- What a device sends to the peer `j` places further is what that one receives. -/
theorem rBlk_peer (X : XArr F) (c : Dev nD) (j : ℕ) (hj : j ≤ 16) : rBlk X (peer c j) j = sBlk X c j := by
  unfold rBlk; rw [peer_back c j hj]

/-- Contents that are held read as something. -/
theorem any_reads (c : Dev nD) {sp : Space} {s : Shape} {e : EltTy} (v : Memref sig .tc sp s e) :
    any c v ⊢ (iprop(∃ Y, reads c v Y) : sProp (MT nD τ sig Unit (Elt F) ℕ UU ℕ)) := by
  unfold any held reads owns
  iintro ⟨%f, Hf⟩
  iexists (v.view.read (Elt F) f)
  iexists f
  isplitr; · ipureintro; rfl
  iexact Hf
theorem reads_any (c : Dev nD) {sp : Space} {s : Shape} {e : EltTy} (v : Memref sig .tc sp s e) (Y : s.Idx → Elt F e) :
    reads c v Y ⊢ (any c v : sProp (MT nD τ sig Unit (Elt F) ℕ UU ℕ)) := by
  unfold any held reads owns
  iintro ⟨%f, -, Hf⟩
  iexists f
  iexact Hf

/-- A staged block is rounded into a send block. -/
theorem round_step (i j : ℕ) (Y : S512x512.Idx → Elt F .f32) :
    Step X W K c iprop(reads c (stV i) Y ∗ any c (sdV j)) (round i j)
      iprop(reads c (stV i) Y ∗ reads c (sdV j) (sq (k0_pay1 (unsq Y)))) := by
  unfold Step WP round
  simp only [Prog.lift, Prog.bind_op, Prog.bind_ret]
  iintro ⟨-, Hs, Hd⟩
  ihave Hd := (any_reads c (sdV j)) $$ Hd
  icases Hd with ⟨%Z, Hd⟩
  iapply (load_slot (M := stM) (r := stR i) squeezes_S1x512x512_S512x512) $$ Hs
  iintro Hs
  iapply (load_slot (M := sdM) (r := blkR j) squeezes_S1x512x512_S512x512) $$ Hd
  iintro Hd
  ihave Hd := (reads_any c (sdV j) Z) $$ Hd
  iapply (store_slot (M := sdM) (r := blkR j) squeezes_S1x512x512_S512x512) $$ Hd
  iintro Hd
  rw [wp_ret]; imodintro
  isplitl [Hs]; · iexact Hs
  iexact Hd

theorem full_x (X : XArr F) (W : WArr F) (c : Dev nD) (i : ℕ) :
    (xCopies X W c).full i = reads c (stV i) (xBlk X c (i + 1)) := rfl

/-- What step `j` of the sends needs; the sixteenth only rounds. -/
def sendTodo (c : Dev nD) (j : ℕ) : sProp 𝕄 :=
  iprop(any c (sdV j) ∗ if j < 16 then iprop(any (peer c j) (rvV j) ∗ dutyTok ER (dCell c (sendS j)) 0 0
    ∗ dutyTok ER (dCell (peer c j) (recvS j)) 0 0) else iprop(emp))
/-- What it leaves: the credit of the block sent, or the device's own block. -/
def sent (X : XArr F) (c : Dev nD) (j : ℕ) : sProp 𝕄 :=
  if j < 16 then cred (tallyAt (dCell c (sendS j)) () Nb) else reads c (sdV j) (sBlk X c j)

/-- The block rounded is sent. -/
theorem send_reads (j : ℕ) (h1 : 1 ≤ j) (h2 : j < 16) :
    Step X W K c iprop(reads c (sdV j) (sBlk X c j) ∗ any (peer c j) (rvV j) ∗ dutyTok ER (dCell c (sendS j)) 0 0
        ∗ dutyTok ER (dCell (peer c j) (recvS j)) 0 0 ∗ owing c (owedS c j))
      (send c j) iprop(cred (tallyAt (dCell c (sendS j)) () Nb) ∗ owing c (owedS c (j + 1))) := by
  have hr := recvS_val j
  unfold Step
  unfold reads owns
  iintro ⟨#HK, ⟨%f, %hf, Hf⟩, H⟩
  have h := Step.entails <| send_step (X := X) (W := W) (K := K) (c := c) f h1 h2 (by
    rw [hf]
    unfold pays
    rw [if_neg (by omega), if_pos (by omega), show (recvS j).val - 17 = j by omega, rBlk_peer X c j (by omega)])
  iapply h
  isplitr; · iexact HK
  isplitl [Hf]; · unfold held; iexact Hf
  iexact H

/-- One step's rounding and sending. -/
def roundSend (c : Dev nD) (i : ℕ) : TcProg F PUnit :=
  round i (i + 1) >>= fun _ => if i + 1 < 16 then send c (i + 1) else pure ⟨⟩

theorem roundSend_step (i : ℕ) (hi : i < 16) :
    Step X W K c iprop((xCopies X W c).full i ∗ sendTodo c (i + 1) ∗ owing c (owedS c (i + 1))) (roundSend c i)
      iprop((xCopies X W c).full i ∗ sent X c (i + 1) ∗ owing c (owedS c (i + 2))) := by
  unfold roundSend sendTodo sent
  rw [full_x]
  refine Step.seq (Q := iprop((reads c (stV i) (xBlk X c (i + 1)) ∗ reads c (sdV (i + 1)) (sBlk X c (i + 1)))
      ∗ (if i + 1 < 16 then iprop(any (peer c (i + 1)) (rvV (i + 1)) ∗ dutyTok ER (dCell c (sendS (i + 1))) 0 0
          ∗ dutyTok ER (dCell (peer c (i + 1)) (recvS (i + 1))) 0 0) else iprop(emp)) ∗ owing c (owedS c (i + 1)))) ?_ ?_
  · refine Step.conseq ?_ (Entails.of_eq rfl) (Step.frame (round_step i (i + 1) (xBlk X c (i + 1))))
    iintro ⟨Hf, ⟨Hd, Hr⟩, Ho⟩
    isplitl [Hf Hd]
    · isplitl [Hf]; · iexact Hf
      iexact Hd
    isplitl [Hr]; · iexact Hr
    iexact Ho
  · by_cases h : i + 1 < 16
    · simp only [if_pos h]
      refine Step.conseq ?_ ?_ (Step.frame (R := reads c (stV i) (xBlk X c (i + 1))) (send_reads (i + 1) (by omega) h))
      · iintro ⟨⟨Hs, Hd⟩, ⟨H1, H2, H3⟩, Ho⟩
        isplitr [Hs]
        · isplitl [Hd]; · iexact Hd
          isplitl [H1]; · iexact H1
          isplitl [H2]; · iexact H2
          isplitl [H3]; · iexact H3
          iexact Ho
        iexact Hs
      · iintro ⟨⟨Hc, Ho⟩, Hs⟩
        isplitl [Hs]; · iexact Hs
        isplitl [Hc]; · iexact Hc
        iexact Ho
    · simp only [if_neg h]
      refine Step.conseq (BIBase.Entails.of_eq rfl) ?_ Step.pure
      rw [show i + 1 = 16 by omega, show i + 2 = 17 by omega, show owedS c 17 = owedS c 16 from rfl]
      iintro ⟨⟨Hs, Hd⟩, -, Ho⟩
      isplitl [Hs]; · iexact Hs
      isplitl [Hd]; · iexact Hd
      iexact Ho

/-- What the device holds before staging step `i`. -/
def stageInv (X : XArr F) (W : WArr F) (c : Dev nD) (i : ℕ) : sProp 𝕄 :=
  let C := xCopies X W c
  iprop((C.slot i ∗ C.slot (i + 1) ∗ C.slot (i + 2) ∗ C.free (i + 3))
    ∗ (bigSep (Finset.Ico (i + 3) 19) C.todo ∗ bigSep (Finset.Ico 0 i) C.back)
    ∗ (bigSep (Finset.Ico (i + 1) 17) (sendTodo c) ∗ bigSep (Finset.Ico 1 (i + 1)) (sent X c))
    ∗ owing c (owedS c (i + 1)))

theorem stageStep_eq (c : Dev nD) (i : ℕ) : stageStep (F := F) c i
    = (if i + 3 < 16 then stStart c (i + 3) else pure ⟨⟩) >>= fun _ => stWait c i >>= fun _ => roundSend c i := by
  unfold stageStep roundSend
  by_cases h : i + 3 < 16
  · simp only [if_pos h]
  · simp only [if_neg h]; rfl

/-- Staging step `i` takes the one to the next. -/
theorem stage_step (i : ℕ) (hi : i < 16) : Step X W K c (stageInv X W c i) (stageStep c i) (stageInv X W c (i + 1)) := by
  rw [stageStep_eq]
  unfold stageInv
  dsimp only
  set C := xCopies X W c with hC
  rw [bigSep_Ico_succ_bot (show i + 3 < 19 by omega) C.todo, bigSep_Ico_succ_bot (show i + 1 < 17 by omega) (sendTodo c),
    bigSep_Ico_succ_top (show 0 ≤ i by omega) C.back, bigSep_Ico_succ_top (show 1 ≤ i + 1 by omega) (sent X c)]
  -- the next copy starts
  refine Step.seq (Q := iprop(C.slot (i + 3) ∗ (C.slot i ∗ owing c (owedS c (i + 1))) ∗ sendTodo c (i + 1)
    ∗ (C.slot (i + 1) ∗ C.slot (i + 2)) ∗ (bigSep (Finset.Ico (i + 3 + 1) 19) C.todo ∗ bigSep (Finset.Ico 0 i) C.back)
    ∗ (bigSep (Finset.Ico (i + 1 + 1) 17) (sendTodo c) ∗ bigSep (Finset.Ico 1 (i + 1)) (sent X c)))) ?_ ?_
  · have hs : Step X W K c iprop(C.free (i + 3) ∗ C.todo (i + 3)) (if i + 3 < 16 then stStart c (i + 3) else pure ⟨⟩) (C.slot (i + 3)) := by
      split
      · exact C.start (i + 3) ‹_›
      · exact C.start_none (i + 3) ‹_›
    refine Step.conseq ?_ (BIBase.Entails.of_eq rfl) (Step.frame hs)
    iintro ⟨⟨H0, H1, H2, H3⟩, ⟨⟨Ht, HT⟩, HB⟩, ⟨⟨Hd, HD⟩, HS⟩, Ho⟩
    isplitl [H3 Ht]; · isplitl [H3] <;> iassumption
    isplitl [H0 Ho]; · isplitl [H0] <;> iassumption
    isplitl [Hd]; · iexact Hd
    isplitl [H1 H2]; · isplitl [H1] <;> iassumption
    isplitl [HT HB]; · isplitl [HT] <;> iassumption
    isplitl [HD] <;> iassumption
  -- the staged block is awaited
  refine Step.seq (Q := iprop((C.full i ∗ sendTodo c (i + 1) ∗ owing c (owedS c (i + 1))) ∗ C.next i ∗ C.back i ∗ C.slot (i + 3)
    ∗ (C.slot (i + 1) ∗ C.slot (i + 2)) ∗ (bigSep (Finset.Ico (i + 3 + 1) 19) C.todo ∗ bigSep (Finset.Ico 0 i) C.back)
    ∗ (bigSep (Finset.Ico (i + 1 + 1) 17) (sendTodo c) ∗ bigSep (Finset.Ico 1 (i + 1)) (sent X c)))) ?_ ?_
  · refine Step.conseq ?_ ?_ (Step.frame (R := iprop(C.slot (i + 3) ∗ sendTodo c (i + 1)
      ∗ (C.slot (i + 1) ∗ C.slot (i + 2)) ∗ (bigSep (Finset.Ico (i + 3 + 1) 19) C.todo ∗ bigSep (Finset.Ico 0 i) C.back)
      ∗ (bigSep (Finset.Ico (i + 1 + 1) 17) (sendTodo c) ∗ bigSep (Finset.Ico 1 (i + 1)) (sent X c))))
      (C.wait i hi (i + 1)))
    · iintro ⟨Hs, Hw, Hd, H⟩
      isplitl [Hw]; · iexact Hw
      isplitl [Hs]; · iexact Hs
      isplitl [Hd]; · iexact Hd
      iexact H
    · iintro ⟨⟨⟨Hf, Hn⟩, Hb, Ho⟩, Hs, Hd, H⟩
      isplitl [Hf Hd Ho]
      · isplitl [Hf]; · iexact Hf
        isplitl [Hd]; · iexact Hd
        iexact Ho
      isplitl [Hn]; · iexact Hn
      isplitl [Hb]; · iexact Hb
      isplitl [Hs]; · iexact Hs
      iexact H
  -- and rounded and sent
  refine Step.conseq (BIBase.Entails.of_eq rfl) ?_ (Step.frame (roundSend_step i hi))
  iintro ⟨⟨Hf, Hs, Ho⟩, Hn, Hb, H3, ⟨H1, H2⟩, ⟨HT, HB⟩, HD, HS⟩
  isplitl [Hf Hn H1 H2 H3]
  · isplitl [H1]; · iexact H1
    isplitl [H2]; · iexact H2
    isplitl [H3]; · iexact H3
    ihave H := (C.full_free i) $$ [Hf Hn]
    · isplitl [Hf] <;> iassumption
    iexact H
  isplitl [HT HB Hb]
  · isplitl [HT]; · iexact HT
    isplitl [Hb] <;> iassumption
  isplitl [HD HS Hs]
  · isplitl [HD]; · iexact HD
    isplitl [Hs] <;> iassumption
  iexact Ho

end Cert.KernelIdeal.A2A
-- ==== Proof.Comp.lean ====
/-
The computing loop: what a device holds before each of its sixteen steps. Step `d` awaits the block
received from the peer `d` places back, and adds its product with the matching weights to the result,
one column half after the other.
-/
module

public import proofs.«01_k».proof.Proof.Stage

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : XArr F} {W : WArr F} {K : Dev nD × Fin 39 → ℕ} {c : Dev nD}

/-! ## The contents -/

/-- Column half `h` of the result's block. -/
abbrev oV (h : ℕ) : Memref sig .tc .vmem S512x2048 .f32 := oM.slice (oR h) (fun _ => rfl)

/-- What half `h` of the result holds after step `d`. -/
def halfV (X : XArr F) (W : WArr F) (c : Dev nD) (h : ℕ) : ℕ → Vec F S512x2048 .f32
  | 0 => prod (unsq (rBlk X c 0)) (unsqW (wBlk W c h))
  | d + 1 => pay (d + 1) (unsq (rBlk X c (d + 1))) (unsqW (wBlk W c (2 * (d + 1) + h))) (halfV X W c h d)

/-- Half `h` of the result before step `d`. -/
def outH (X : XArr F) (W : WArr F) (c : Dev nD) (h : ℕ) : ℕ → sProp 𝕄
  | 0 => iprop(∃ Y, reads c (oV h) Y)
  | d + 1 => reads c (oV h) (halfV X W c h d)

theorem outH_zero (h : ℕ) : outH X W c h 0 = iprop(∃ Y, reads c (oV h) Y) := rfl
theorem outH_succ (h d : ℕ) : outH X W c h (d + 1) = reads c (oV h) (halfV X W c h d) := rfl
theorem halfV_zero (h : ℕ) (Y : S512x2048.Idx → Elt F .f32) :
    halfV X W c h 0 = pay 0 (unsq (rBlk X c 0)) (unsqW (wBlk W c (2 * 0 + h))) Y := by
  unfold halfV pay; rw [if_pos rfl, Nat.mul_zero, Nat.zero_add]
theorem halfV_succ (h d : ℕ) : halfV X W c h (d + 1)
    = pay (d + 1) (unsq (rBlk X c (d + 1))) (unsqW (wBlk W c (2 * (d + 1) + h))) (halfV X W c h d) := rfl

/-! ## The arithmetic -/

/-- Block `j` of a buffer of sixteen, as a matrix. -/
abbrev blkOf (M : Memref sig .tc .vmem S16x512x512 .bf16) (j : ℕ) : Memref sig .tc .vmem S512x512 .bf16 :=
  (M.slice (blkR j) (fun _ => rfl)).squeeze S512x512 squeezes_S1x512x512_S512x512

/-- A half of a step whose left blocks are in the buffer `M`. -/
def computeOn (M : Memref sig .tc .vmem S16x512x512 .bf16) (d h : ℕ) : TcProg F PUnit :=
  Prog.lift (.load M (blkR d).toLoadRect (View.loadsAt_vmem h_S1x512x512)) >>= fun a : Vec F S1x512x512 .bf16 =>
  Prog.lift (.load wbM (wbR h).toLoadRect (View.loadsAt_vmem h_S1x512x2048)) >>= fun w : Vec F S1x512x2048 .f32 =>
  Prog.lift (.load oM (oR h).toLoadRect (View.loadsAt_vmem h_S512x2048)) >>= fun o : Vec F S512x2048 .f32 =>
  (if d = 0 then pure ⟨⟩ else
    Prog.lift (.load oM (oR h).toLoadRect (View.loadsAt_vmem h_S512x2048)) >>= fun _ : Vec F S512x2048 .f32 => pure ⟨⟩)
    >>= fun _ : PUnit =>
  Prog.lift (.store oM (oR h) (pay d a w o) Finset.univ (View.stores_vmem_bits_univ h_S512x2048 rfl) (.inl rfl))

theorem compute_eq (d h : ℕ) : compute (F := F) d h = computeOn (lhsM d) d h := by
  unfold compute computeOn
  by_cases hd : d = 0
  · subst hd; rfl
  · simp only [if_neg hd]; rfl

theorem computeOn_step (M : Memref sig .tc .vmem S16x512x512 .bf16) (d h : ℕ) (A : S512x512.Idx → Elt F .bf16)
    (B : S512x2048.Idx → Elt F .f32) (O : S512x2048.Idx → Elt F .f32) :
    Step X W K c iprop(reads c (blkOf M d) A ∗ reads c (wbV h) B ∗ reads c (oV h) O) (computeOn M d h)
      iprop(reads c (blkOf M d) A ∗ reads c (wbV h) B ∗ reads c (oV h) (pay d (unsq A) (unsqW B) O)) := by
  unfold Step WP computeOn
  iintro ⟨-, HA, HB, HO⟩
  by_cases hd : d = 0
  · simp only [if_pos hd, Prog.lift, Prog.bind_op, Prog.bind_ret, Prog.pure_eq_ret]
    iapply (load_slot (M := M) (r := blkR d) squeezes_S1x512x512_S512x512) $$ HA
    iintro HA
    iapply (load_slot (M := wbM) (r := wbR h) squeezes_S1x512x2048_S512x2048) $$ HB
    iintro HB
    iapply (load_rect (M := oM) (r := oR h)) $$ HO
    iintro HO
    iapply (store_rect (M := oM) (r := oR h)) $$ HO
    iintro HO
    rw [wp_ret]; imodintro
    isplitl [HA]; · iexact HA
    isplitl [HB]; · iexact HB
    iexact HO
  · simp only [if_neg hd, Prog.lift, Prog.bind_op, Prog.bind_ret, Prog.pure_eq_ret]
    iapply (load_slot (M := M) (r := blkR d) squeezes_S1x512x512_S512x512) $$ HA
    iintro HA
    iapply (load_slot (M := wbM) (r := wbR h) squeezes_S1x512x2048_S512x2048) $$ HB
    iintro HB
    iapply (load_rect (M := oM) (r := oR h)) $$ HO
    iintro HO
    iapply (load_rect (M := oM) (r := oR h)) $$ HO
    iintro HO
    iapply (store_rect (M := oM) (r := oR h)) $$ HO
    iintro HO
    rw [wp_ret]; imodintro
    isplitl [HA]; · iexact HA
    isplitl [HB]; · iexact HB
    iexact HO

/-! ## The left blocks -/

/-- Before step `d`: this device's own block at step zero, the credit of a receiving cell after; -/
def lhsTodo (X : XArr F) (c : Dev nD) (d : ℕ) : sProp 𝕄 :=
  if d = 0 then reads c (sdV 0) (rBlk X c 0)
  else iprop(cred (tallyAt (dCell c (recvS d)) () Nb) ∗ atPos ER (dCell c (recvS d)) 0 ∅ 0)
/-- after it: the block. -/
def lhsDone (X : XArr F) (c : Dev nD) (d : ℕ) : sProp 𝕄 :=
  if d = 0 then reads c (sdV 0) (rBlk X c 0)
  else iprop(reads c (rvV d) (rBlk X c d) ∗ atPos ER (dCell c (recvS d)) 1 ∅ 0)

/-- The received block is awaited, if it is not the own one. -/
def recvIf (d : ℕ) : TcProg F PUnit := if d = 0 then pure ⟨⟩ else recvWait d

theorem recvIf_step (d : ℕ) (hd : d < 16) :
    Step X W K c iprop(lhsTodo X c d ∗ owing c (owedS c 16)) (recvIf d) iprop(lhsDone X c d ∗ owing c (owedS c 16)) := by
  unfold lhsTodo lhsDone recvIf
  by_cases h : d = 0
  · simp only [if_pos h]; exact Step.pure
  · simp only [if_neg h]
    have hv := recvS_val d
    have hr : 0 < nRounds (recvS d).val := by unfold nRounds; rw [if_neg (by omega), if_pos (by omega)]; decide
    refine Step.conseq ?_ ?_ (dma_wait (src := sdV d) (dst := rvV d) (r := 0) Nb (by omega) hr (credit_rv d) (amount_blk X W c _ (by omega)) (owedS c 16)
      (by rw [owedS_end]; exact mayWait_none c _))
    · iintro ⟨⟨Hc, Ha⟩, Ho⟩
      isplitl [Hc]; · iexact Hc
      isplitl [Ha]; · iexact Ha
      iexact Ho
    · unfold pays
      rw [if_neg (by omega), if_pos (by omega), show (recvS d).val - 17 = d by omega]
      iintro ⟨Hp, Ha, -, Ho⟩
      isplitr [Ho]
      · isplitl [Hp]; · iexact Hp
        iexact Ha
      iexact Ho

/-! ## A half step -/

theorem wbV_half (d h : ℕ) : wbV (2 * d + h) = wbV h := slot_congr wbM (by rw [show (2 * d + h) % 2 = h % 2 by omega]) _ _ _

/-- The arithmetic of half `h` of step `d`. -/
theorem compute_step (d h : ℕ) :
    Step X W K c iprop((wCopies X W c).full (2 * d + h) ∗ lhsDone X c d ∗ outH X W c h d) (compute d h)
      iprop((wCopies X W c).full (2 * d + h) ∗ lhsDone X c d ∗ outH X W c h (d + 1)) := by
  rw [compute_eq, show (wCopies X W c).full (2 * d + h) = reads c (wbV (2 * d + h)) (wBlk W c (2 * d + h)) from rfl, wbV_half]
  unfold lhsDone
  rcases d with _ | d
  · rw [if_pos rfl]
    rw [outH_zero, outH_succ]
    have hs := fun O => Step.entails (computeOn_step (X := X) (W := W) (K := K) (c := c) sdM 0 h (rBlk X c 0) (wBlk W c (2 * 0 + h)) O)
    unfold Step
    iintro ⟨#HK, HB, HA, ⟨%Y, HO⟩⟩
    ihave H := (hs Y) $$ [HA HB HO]
    · isplitr; · iexact HK
      isplitl [HA]; · iexact HA
      isplitl [HB]; · iexact HB
      iexact HO
    iapply (wp_wand _ _ _) $$ H
    iintro %_ ⟨HA, HB, HO⟩
    isplitl [HB]; · iexact HB
    isplitl [HA]; · iexact HA
    rw [halfV_zero h Y]
    iexact HO
  · rw [if_neg (by omega)]
    rw [outH_succ, outH_succ, show lhsM (d + 1) = rvM from if_neg (by omega)]
    refine Step.conseq ?_ ?_ (Step.frame (R := atPos ER (dCell c (recvS (d + 1))) 1 ∅ 0)
      (computeOn_step rvM (d + 1) h (rBlk X c (d + 1)) (wBlk W c (2 * (d + 1) + h)) (halfV X W c h d)))
    · iintro ⟨HB, ⟨HA, Ha⟩, HO⟩
      isplitr [Ha]
      · isplitl [HA]; · iexact HA
        isplitl [HB]; · iexact HB
        iexact HO
      iexact Ha
    · iintro ⟨⟨HA, HB, HO⟩, Ha⟩
      isplitl [HB]; · iexact HB
      isplitr [HO]
      · isplitl [HA]; · iexact HA
        iexact Ha
      rw [halfV_succ]
      iexact HO

/-- The next weights start, these are awaited. -/
def wTurn (c : Dev nD) (k : ℕ) : TcProg F PUnit := wNext c (k + 1) >>= fun _ => wWait c k

theorem wTurn_step (k : ℕ) (hk : k < 32) :
    Step X W K c iprop((wCopies X W c).slot k ∗ (wCopies X W c).free (k + 1) ∗ (wCopies X W c).todo (k + 1) ∗ owing c (owedS c 16))
      (wTurn c k)
      iprop((wCopies X W c).full k ∗ (wCopies X W c).next k ∗ (wCopies X W c).back k ∗ (wCopies X W c).slot (k + 1)
        ∗ owing c (owedS c 16)) := by
  set C := wCopies X W c with hC
  unfold wTurn
  refine Step.seq (Q := iprop(C.slot (k + 1) ∗ C.slot k ∗ owing c (owedS c 16))) ?_ ?_
  · have hs : Step X W K c iprop(C.free (k + 1) ∗ C.todo (k + 1)) (wNext c (k + 1)) (C.slot (k + 1)) := by
      unfold wNext; split
      · exact C.start (k + 1) ‹_›
      · exact C.start_none (k + 1) ‹_›
    refine Step.conseq ?_ (BIBase.Entails.of_eq rfl) (Step.frame hs)
    iintro ⟨H0, H1, Ht, Ho⟩
    isplitl [H1 Ht]; · isplitl [H1] <;> iassumption
    isplitl [H0] <;> iassumption
  · refine Step.conseq ?_ ?_ (Step.frame (R := C.slot (k + 1)) (C.wait k hk 16))
    · iintro ⟨H1, H⟩
      isplitl [H]; · iexact H
      iexact H1
    · iintro ⟨⟨⟨Hf, Hn⟩, Hb, Ho⟩, H1⟩
      isplitl [Hf]; · iexact Hf
      isplitl [Hn]; · iexact Hn
      isplitl [Hb]; · iexact Hb
      isplitl [H1] <;> iassumption

/-! ## The loop -/

/-- What the device holds before computing step `d`. -/
def compInv (X : XArr F) (W : WArr F) (c : Dev nD) (d : ℕ) : sProp 𝕄 :=
  let C := wCopies X W c
  iprop((C.slot (2 * d) ∗ C.free (2 * d + 1))
    ∗ (bigSep (Finset.Ico (2 * d + 1) 33) C.todo ∗ bigSep (Finset.Ico 0 (2 * d)) C.back)
    ∗ (bigSep (Finset.Ico d 16) (lhsTodo X c) ∗ bigSep (Finset.Ico 0 d) (lhsDone X c))
    ∗ (outH X W c 0 d ∗ outH X W c 1 d)
    ∗ owing c (owedS c 16))

theorem compStep_eq (c : Dev nD) (d : ℕ) : compStep (F := F) c d
    = wTurn c (2 * d) >>= fun _ => recvIf d >>= fun _ => compute d 0 >>= fun _ => wTurn c (2 * d + 1) >>= fun _ => compute d 1 := by
  unfold compStep wTurn recvIf
  by_cases h : d = 0
  · simp only [if_pos h, Prog.bind_assoc]; rfl
  · simp only [if_neg h, Prog.bind_assoc]

/-- Computing step `d` takes the one to the next. -/
theorem comp_step (d : ℕ) (hd : d < 16) : Step X W K c (compInv X W c d) (compStep c d) (compInv X W c (d + 1)) := by
  rw [compStep_eq]
  unfold compInv
  dsimp only
  set C := wCopies X W c with hC
  rw [bigSep_Ico_succ_bot (show 2 * d + 1 < 33 by omega) C.todo, bigSep_Ico_succ_bot (show 2 * d + 1 + 1 < 33 by omega) C.todo,
    bigSep_Ico_succ_bot hd (lhsTodo X c), show 2 * (d + 1) = 2 * d + 1 + 1 by omega,
    bigSep_Ico_succ_top (show 0 ≤ 2 * d + 1 by omega) C.back, bigSep_Ico_succ_top (show 0 ≤ 2 * d by omega) C.back,
    bigSep_Ico_succ_top (show 0 ≤ d by omega) (lhsDone X c)]
  -- the weights of the first half
  refine Step.seq (Q := iprop((lhsTodo X c d ∗ owing c (owedS c 16)) ∗ (C.full (2 * d) ∗ C.next (2 * d) ∗ C.back (2 * d) ∗ C.slot (2 * d + 1)) ∗
    (C.todo (2 * d + 1 + 1) ∗ bigSep (Finset.Ico (2 * d + 1 + 1 + 1) 33) C.todo ∗ bigSep (Finset.Ico 0 (2 * d)) C.back)
    ∗ (bigSep (Finset.Ico (d + 1) 16) (lhsTodo X c) ∗ bigSep (Finset.Ico 0 d) (lhsDone X c))
    ∗ (outH X W c 0 d ∗ outH X W c 1 d))) ?_ ?_
  · refine Step.conseq ?_ ?_ (Step.frame (R := iprop(lhsTodo X c d ∗
      (C.todo (2 * d + 1 + 1) ∗ bigSep (Finset.Ico (2 * d + 1 + 1 + 1) 33) C.todo ∗ bigSep (Finset.Ico 0 (2 * d)) C.back)
      ∗ (bigSep (Finset.Ico (d + 1) 16) (lhsTodo X c) ∗ bigSep (Finset.Ico 0 d) (lhsDone X c))
      ∗ (outH X W c 0 d ∗ outH X W c 1 d))) (wTurn_step (2 * d) (by omega)))
    · iintro ⟨⟨H0, H1⟩, ⟨⟨Ht, Ht', HT⟩, HB⟩, ⟨⟨Hl, HL⟩, HD⟩, HO, Ho⟩
      isplitl [H0 H1 Ht Ho]
      · isplitl [H0]; · iexact H0
        isplitl [H1]; · iexact H1
        isplitl [Ht] <;> iassumption
      isplitl [Hl]; · iexact Hl
      isplitl [Ht' HT HB]
      · isplitl [Ht']; · iexact Ht'
        isplitl [HT] <;> iassumption
      isplitl [HL HD]; · isplitl [HL] <;> iassumption
      iexact HO
    · iintro ⟨⟨Hf, Hn, Hb, Hs, Ho⟩, Hl, H⟩
      isplitl [Hl Ho]; · isplitl [Hl] <;> iassumption
      isplitl [Hf Hn Hb Hs]
      · isplitl [Hf]; · iexact Hf
        isplitl [Hn]; · iexact Hn
        isplitl [Hb] <;> iassumption
      iexact H
  -- the left block
  refine Step.seq (Step.frame (recvIf_step d hd)) ?_
  -- the first half's arithmetic
  refine Step.seq (Q := iprop((C.full (2 * d) ∗ lhsDone X c d ∗ outH X W c 0 (d + 1)) ∗ owing c (owedS c 16)
    ∗ (C.next (2 * d) ∗ C.back (2 * d) ∗ C.slot (2 * d + 1)) ∗
    (C.todo (2 * d + 1 + 1) ∗ bigSep (Finset.Ico (2 * d + 1 + 1 + 1) 33) C.todo ∗ bigSep (Finset.Ico 0 (2 * d)) C.back)
    ∗ (bigSep (Finset.Ico (d + 1) 16) (lhsTodo X c) ∗ bigSep (Finset.Ico 0 d) (lhsDone X c))
    ∗ outH X W c 1 d)) ?_ ?_
  · refine Step.conseq ?_ (BIBase.Entails.of_eq rfl) (Step.frame (compute_step d 0))
    iintro ⟨⟨Hl, Ho⟩, ⟨Hf, Hn⟩, HT, HL, HO, HO'⟩
    isplitl [Hf Hl HO]
    · isplitl [Hf]; · iexact Hf
      isplitl [Hl] <;> iassumption
    isplitl [Ho]; · iexact Ho
    isplitl [Hn]; · iexact Hn
    isplitl [HT]; · iexact HT
    isplitl [HL] <;> iassumption
  -- the weights of the second half
  refine Step.seq (Q := iprop((C.full (2 * d + 1) ∗ lhsDone X c d ∗ outH X W c 1 d) ∗
    (C.next (2 * d + 1) ∗ C.back (2 * d + 1) ∗ C.slot (2 * d + 1 + 1) ∗ owing c (owedS c 16)) ∗ C.back (2 * d)
    ∗ (bigSep (Finset.Ico (2 * d + 1 + 1 + 1) 33) C.todo ∗ bigSep (Finset.Ico 0 (2 * d)) C.back)
    ∗ (bigSep (Finset.Ico (d + 1) 16) (lhsTodo X c) ∗ bigSep (Finset.Ico 0 d) (lhsDone X c))
    ∗ outH X W c 0 (d + 1))) ?_ ?_
  · refine Step.conseq ?_ ?_ (Step.frame (R := iprop(C.back (2 * d) ∗ lhsDone X c d ∗
      (bigSep (Finset.Ico (2 * d + 1 + 1 + 1) 33) C.todo ∗ bigSep (Finset.Ico 0 (2 * d)) C.back)
      ∗ (bigSep (Finset.Ico (d + 1) 16) (lhsTodo X c) ∗ bigSep (Finset.Ico 0 d) (lhsDone X c))
      ∗ outH X W c 0 (d + 1) ∗ outH X W c 1 d)) (wTurn_step (2 * d + 1) (by omega)))
    · iintro ⟨⟨Hf, Hl, HO⟩, Ho, ⟨Hn, Hb, Hs⟩, ⟨Ht, HT⟩, HL, HO'⟩
      isplitl [Hf Hn Hs Ht Ho]
      · isplitl [Hs]; · iexact Hs
        isplitl [Hf Hn]
        · ihave H := (C.full_free (2 * d)) $$ [Hf Hn]
          · isplitl [Hf] <;> iassumption
          iexact H
        isplitl [Ht] <;> iassumption
      isplitl [Hb]; · iexact Hb
      isplitl [Hl]; · iexact Hl
      isplitl [HT]; · iexact HT
      isplitl [HL]; · iexact HL
      isplitl [HO] <;> iassumption
    · iintro ⟨⟨Hf, Hn⟩, Hb, Hl, HT, HL, HO, HO'⟩
      isplitl [Hf Hl HO']
      · isplitl [Hf]; · iexact Hf
        isplitl [Hl] <;> iassumption
      isplitl [Hn]; · iexact Hn
      isplitl [Hb]; · iexact Hb
      isplitl [HT]; · iexact HT
      isplitl [HL] <;> iassumption
  -- its arithmetic
  refine Step.conseq (BIBase.Entails.of_eq rfl) ?_ (Step.frame (compute_step d 1))
  iintro ⟨⟨Hf, Hl, HO'⟩, ⟨Hn, Hb', Hs, Ho⟩, Hb, ⟨HT, HB⟩, ⟨HL, HD⟩, HO⟩
  isplitl [Hs Hf Hn]
  · isplitl [Hs]; · iexact Hs
    ihave H := (C.full_free (2 * d + 1)) $$ [Hf Hn]
    · isplitl [Hf] <;> iassumption
    iexact H
  isplitl [HT Hb' Hb HB]
  · isplitl [HT]; · iexact HT
    isplitl [Hb']; · iexact Hb'
    isplitl [Hb] <;> iassumption
  isplitl [HL Hl HD]
  · isplitl [HL]; · iexact HL
    isplitl [Hl] <;> iassumption
  isplitl [HO HO']; · isplitl [HO] <;> iassumption
  iexact Ho

end Cert.KernelIdeal.A2A
-- ==== Proof.Body.lean ====
/-
One device's whole run: what it holds at its start, and what at its end.
-/
module

public import proofs.«01_k».proof.Proof.Comp

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : XArr F} {W : WArr F} {K : Dev nD × Fin 39 → ℕ} {c : Dev nD}

/-- A step on a part of what is held. -/
theorem Step.on {P P' Q Q' : sProp (MT nD τ sig Unit (Elt F) ℕ UU ℕ)} {p : TcProg F PUnit}
    (R : sProp (MT nD τ sig Unit (Elt F) ℕ UU ℕ)) (h : Step X W K c P p Q)
    (hP : P' ⊢ iprop(P ∗ R)) (hQ : iprop(Q ∗ R) ⊢ Q') : Step X W K c P' p Q' :=
  Step.conseq hP hQ (Step.frame h)

/-! ## The barrier -/

/-- What signalling the peer `j` places further needs: this device's receiving block for that peer's
    sends, and the right to pay the peer's barrier. -/
def sigTodo (c : Dev nD) (j : ℕ) : sProp 𝕄 :=
  iprop(any c (rvV (16 - j)) ∗ dutyTok ER (barCell (peer c j)) 0 (16 - j))

theorem signal_step (j : ℕ) (h1 : 1 ≤ j) (h2 : j < 16) :
    Step X W K c iprop(sigTodo c j ∗ owing c (owedS c 1 + owedB c j)) (signal c j) (owing c (owedS c 1 + owedB c (j + 1))) := by
  unfold Step WP sigTodo owing signal
  simp only [semSignalWord, Prog.lift, Prog.bind_op, Prog.bind_ret, Prog.pure_eq_ret]
  iintro ⟨#HK, ⟨Hp, Ht⟩, ⟨%Wt, Ho⟩⟩
  ihave #HI := (bar_inv X W K (peer c j)) $$ HK
  ihave #HR := (bar_reached X W K (peer c j)) $$ HK
  iapply (Rounds.wp_signal 𝒱₀ ER (rd X W) (c : Thread nD τ) none (dst := (peer c j : Thread nD τ)) (κ := K (peer c j, 0)) (r := 0)
      (d := 16 - j) (by rw [duties_bar]; exact Finset.mem_Ico.mpr (by omega)) rfl ()
      (O₀ := owedS c 1 + owedB c j) (owedS c 1 + owedB c (j + 1)) (by rw [owedB_step c j h2, ← add_assoc]; rfl)) $$ [Hp Ht Ho]
  · isplitr; · iexact HI
    isplitl [Ho]; · iexact Ho
    isplitl [Ht]; · iexact Ht
    isplitl [Hp]
    · rw [show (rd X W).payload (barCell (peer c j)) 0 (16 - j) = any (peer (peer c j) (16 - j)) (rvV (16 - j)) from rfl,
        peer_back c j (by omega)]
      iexact Hp
    iexact HR
  iintro Ho
  rw [wp_ret]; imodintro; iexists _; iexact Ho

/-- The signals, one after another. -/
theorem signals_step : Step X W K c iprop(bigSep (Finset.Ico 1 16) (sigTodo c) ∗ owing c (owedS c 1 + owedB c 1))
    (steps (signal c) 15 1) (owing c (owedS c 1)) := by
  refine Step.conseq (BIBase.Entails.of_eq rfl) ?_
    (Step.loop (fun i => iprop(bigSep (Finset.Ico i 16) (sigTodo c) ∗ owing c (owedS c 1 + owedB c i))) 15 1 fun i h1 h2 => ?_)
  · rw [owedB_end, add_zero]
    iintro ⟨-, H⟩; iexact H
  · rw [bigSep_Ico_succ_bot (show i < 16 by omega) (sigTodo c)]
    refine Step.on (bigSep (Finset.Ico (i + 1) 16) (sigTodo c)) (signal_step i h1 (by omega)) ?_ ?_
    · iintro ⟨⟨H, HT⟩, Ho⟩
      isplitl [H Ho]; · isplitl [H] <;> iassumption
      iexact HT
    · iintro ⟨Ho, HT⟩
      isplitl [HT] <;> iassumption

/-- The barrier: every peer's receiving block for this device's sends. -/
theorem barWait_step : Step X W K c
    iprop(cred (tallyAt (barCell c) () 15) ∗ atPos ER (barCell c) 0 ∅ 0 ∗ owing c (owedS c 1)) barWait
    iprop(bigSep (Finset.Ico 1 16) (fun d => any (peer c d) (rvV d)) ∗ atPos ER (barCell c) 1 ∅ 0 ∗ owing c (owedS c 1)) := by
  have hm := known_lev X W K (mayWait_bar c 1)
  unfold Step WP owing barWait
  simp only [semWaitWord, Prog.lift, Prog.bind_op, Prog.bind_ret, Prog.pure_eq_ret]
  iintro ⟨#HK, Hc, Ha, ⟨%Wt, Ho⟩⟩
  ihave #HI := (bar_inv X W K c) $$ HK
  iapply (Rounds.wp_wait_rest_token 𝒱₀ ER (rd X W) (c : Thread nD τ) none (κ := K (c, 0))
      (wpE_semWait_eq 𝒱₀ (c : Thread nD τ) none Set.univ) (Set.mem_univ _) () (O := owedS c 1) (W := Wt) (R := 0) (m := 0) (T := ∅)
      (by rw [expect_bar]; decide)) $$ [Hc Ho Ha]
  · isplitr; · iexact HI
    isplitl [Hc]; · iexact Hc
    isplitl [Ho]; · iexact Ho
    isplitr; · iapply hm; iexact HK
    iexact Ha
  iintro ⟨Ho, Ha, -, Hp⟩
  rw [duties_bar, Finset.sdiff_empty]
  rw [wp_ret]; imodintro
  isplitl [Hp]; · iexact Hp
  isplitl [Ha]; · iexact Ha
  iexists _; iexact Ho

/-! ## The waits for the sends -/

/-- What awaiting the sending of block `j` needs, and gives. -/
def sendFly (c : Dev nD) (j : ℕ) : sProp 𝕄 :=
  iprop(cred (tallyAt (dCell c (sendS j)) () Nb) ∗ atPos ER (dCell c (sendS j)) 0 ∅ 0)
def sendDone (c : Dev nD) (j : ℕ) : sProp 𝕄 := iprop(any c (sdV j) ∗ atPos ER (dCell c (sendS j)) 1 ∅ 0)

theorem sendWait_step (j : ℕ) (h1 : 1 ≤ j) (h2 : j < 16) :
    Step X W K c iprop(sendFly c j ∗ owing c 0) (sendWait j) iprop(sendDone c j ∗ owing c 0) := by
  have hv := sendS_val j
  have hr : 0 < nRounds (sendS j).val := by unfold nRounds; rw [if_neg (by omega), if_pos (by omega)]; decide
  unfold sendFly sendDone sendWait
  refine Step.conseq ?_ ?_ (dma_wait (src := rvV j) (dst := sdV j) (r := 0) Nb (by omega) hr (credit_sd j)
    (amount_blk X W c _ (by omega)) 0 (mayWait_none c _))
  · iintro ⟨⟨Hc, Ha⟩, Ho⟩
    isplitl [Hc]; · iexact Hc
    isplitl [Ha]; · iexact Ha
    iexact Ho
  · unfold pays
    rw [if_pos (by omega), show (sendS j).val - 1 = j by omega]
    iintro ⟨Hp, Ha, -, Ho⟩
    isplitr [Ho]
    · isplitl [Hp]; · iexact Hp
      iexact Ha
    iexact Ho

theorem sendWaits_step : Step X W K c iprop(bigSep (Finset.Ico 1 16) (sendFly c) ∗ owing c 0) (steps sendWait 15 1)
    iprop(bigSep (Finset.Ico 1 16) (sendDone c) ∗ owing c 0) := by
  refine Step.conseq ?_ ?_ (Step.loop (fun i => iprop(bigSep (Finset.Ico i 16) (sendFly c)
    ∗ bigSep (Finset.Ico 1 i) (sendDone c) ∗ owing c 0)) 15 1 fun i h1 h2 => ?_)
  · rw [Finset.Ico_self, bigSep_empty]
    iintro ⟨H, Ho⟩
    isplitl [H]; · iexact H
    isplitr; · iempintro
    iexact Ho
  · iintro ⟨-, H, Ho⟩
    isplitl [H] <;> iassumption
  · rw [bigSep_Ico_succ_bot (show i < 16 by omega) (sendFly c), bigSep_Ico_succ_top h1 (sendDone c)]
    refine Step.on iprop(bigSep (Finset.Ico (i + 1) 16) (sendFly c) ∗ bigSep (Finset.Ico 1 i) (sendDone c))
      (sendWait_step i h1 (by omega)) ?_ ?_
    · iintro ⟨⟨H, HT⟩, HD, Ho⟩
      isplitl [H Ho]; · isplitl [H] <;> iassumption
      isplitl [HT] <;> iassumption
    · iintro ⟨⟨H, Ho⟩, HT, HD⟩
      isplitl [HT]; · iexact HT
      isplitl [H HD]; · isplitl [H] <;> iassumption
      iexact Ho

/-! ## The first copies -/

theorem firsts_step : Step X W K c
    iprop((xCopies X W c).free 0 ∗ (xCopies X W c).free 1 ∗ (xCopies X W c).free 2 ∗ bigSep (Finset.Ico 0 19) (xCopies X W c).todo)
    (steps (stStart c) 3 0)
    iprop((xCopies X W c).slot 0 ∗ (xCopies X W c).slot 1 ∗ (xCopies X W c).slot 2 ∗ bigSep (Finset.Ico 3 19) (xCopies X W c).todo) := by
  set C := xCopies X W c with hC
  rw [bigSep_Ico_succ_bot (show 0 < 19 by decide) C.todo, bigSep_Ico_succ_bot (show 0 + 1 < 19 by decide) C.todo,
    bigSep_Ico_succ_bot (show 0 + 1 + 1 < 19 by decide) C.todo]
  have hs : ∀ k, k < 16 → Step X W K c iprop(C.free k ∗ C.todo k) (stStart c k) (C.slot k) := fun k hk => C.start k hk
  refine Step.seq (Step.on iprop(C.free 1 ∗ C.free 2 ∗ C.todo 1 ∗ C.todo 2 ∗ bigSep (Finset.Ico 3 19) C.todo)
    (hs 0 (by decide)) ?_ (BIBase.Entails.of_eq rfl)) ?_
  · iintro ⟨H0, H1, H2, T0, T1, T2, HT⟩
    isplitl [H0 T0]; · isplitl [H0] <;> iassumption
    isplitl [H1]; · iexact H1
    isplitl [H2]; · iexact H2
    isplitl [T1]; · iexact T1
    isplitl [T2] <;> iassumption
  refine Step.seq (Step.on iprop(C.slot 0 ∗ C.free 2 ∗ C.todo 2 ∗ bigSep (Finset.Ico 3 19) C.todo)
    (hs 1 (by decide)) ?_ (BIBase.Entails.of_eq rfl)) ?_
  · iintro ⟨H0, H1, H2, T1, T2, HT⟩
    isplitl [H1 T1]; · isplitl [H1] <;> iassumption
    isplitl [H0]; · iexact H0
    isplitl [H2]; · iexact H2
    isplitl [T2] <;> iassumption
  refine Step.seq (Step.on iprop(C.slot 0 ∗ C.slot 1 ∗ bigSep (Finset.Ico 3 19) C.todo)
    (hs 2 (by decide)) ?_ (BIBase.Entails.of_eq rfl)) ?_
  · iintro ⟨H1, H0, H2, T2, HT⟩
    isplitl [H2 T2]; · isplitl [H2] <;> iassumption
    isplitl [H0]; · iexact H0
    isplitl [H1] <;> iassumption
  · refine Step.conseq ?_ (BIBase.Entails.of_eq rfl) Step.pure
    iintro ⟨H2, H0, H1, HT⟩
    isplitl [H0]; · iexact H0
    isplitl [H1]; · iexact H1
    isplitl [H2] <;> iassumption

/-! ## The whole run -/

/-- What sending block `j` needs of this device's own. -/
def sendTok (c : Dev nD) (j : ℕ) : sProp 𝕄 :=
  iprop(any c (sdV j) ∗ dutyTok ER (dCell c (sendS j)) 0 0 ∗ dutyTok ER (dCell (peer c j) (recvS j)) 0 0)

theorem sendTodo_one (c : Dev nD) {j : ℕ} (hj : j < 16) : iprop(any (F := F) (peer c j) (rvV j) ∗ sendTok c j) ⊢ sendTodo (F := F) c j := by
  unfold sendTodo sendTok
  rw [if_pos hj]
  iintro ⟨HR, Hd, H1, H2⟩
  isplitl [Hd]; · iexact Hd
  isplitl [HR]; · iexact HR
  isplitl [H1] <;> iassumption

/-- With the peers' blocks from the barrier, the sends can be made. -/
theorem sendTodo_all (c : Dev nD) : iprop(bigSep (Finset.Ico 1 16) (fun d => any (F := F) (peer c d) (rvV d)) ∗ any c (sdV 0) ∗ bigSep (Finset.Ico 1 16) (sendTok c))
    ⊢ bigSep (Finset.Ico 1 17) (sendTodo (F := F) c) := by
  rw [bigSep_Ico_succ_top (show 1 ≤ 16 by decide) (sendTodo c)]
  iintro ⟨HR, H0, HT⟩
  isplitl [H0]
  · unfold sendTodo; rw [if_neg (by decide)]
    isplitl [H0]; · iexact H0
    iempintro
  ihave H := (Entails.of_eq (bigSep_sep' (Finset.Ico 1 16) (fun d => any (F := F) (peer c d) (rvV d)) (sendTok c)).symm) $$ [HR HT]
  · isplitl [HR] <;> iassumption
  have hm : bigSep (Finset.Ico 1 16) (fun j => iprop(any (F := F) (peer c j) (rvV j) ∗ sendTok c j))
      ⊢ bigSep (Finset.Ico 1 16) (sendTodo (F := F) c) := bigSep_mono fun j hj => sendTodo_one c (Finset.mem_Ico.mp hj).2
  iapply hm; iexact H

/-- The position at the start of the cell of send `j`. -/
def sendPos (c : Dev nD) (j : ℕ) : sProp 𝕄 := atPos ER (dCell c (sendS j)) 0 ∅ 0

/-- What a device holds at the start of its run; -/
def bodyStart (X : XArr F) (W : WArr F) (c : Dev nD) : sProp 𝕄 :=
  iprop(owing c (owedS c 1 + owedB c 1)
    ∗ (cred (tallyAt (barCell c) () 15) ∗ atPos ER (barCell c) 0 ∅ 0)
    ∗ bigSep (Finset.Ico 1 16) (sigTodo c)
    ∗ (any c (sdV 0) ∗ bigSep (Finset.Ico 1 16) (sendTok c))
    ∗ bigSep (Finset.Ico 1 16) (sendPos c)
    ∗ bigSep (Finset.Ico 1 16) (lhsTodo X c)
    ∗ ((xCopies X W c).free 0 ∗ (xCopies X W c).free 1 ∗ (xCopies X W c).free 2 ∗ (xCopies X W c).free 3
      ∗ bigSep (Finset.Ico 0 19) (xCopies X W c).todo)
    ∗ ((wCopies X W c).free 0 ∗ (wCopies X W c).free 1 ∗ bigSep (Finset.Ico 0 33) (wCopies X W c).todo)
    ∗ (outH X W c 0 0 ∗ outH X W c 1 0))
/-- and at its end. -/
def bodyEnd (X : XArr F) (W : WArr F) (c : Dev nD) : sProp 𝕄 :=
  iprop(owing c 0
    ∗ atPos ER (barCell c) 1 ∅ 0
    ∗ bigSep (Finset.Ico 1 16) (sendDone c)
    ∗ bigSep (Finset.Ico 0 16) (lhsDone X c)
    ∗ ((xCopies X W c).free 16 ∗ (xCopies X W c).free 17 ∗ (xCopies X W c).free 18 ∗ (xCopies X W c).free 19
      ∗ bigSep (Finset.Ico 0 16) (xCopies X W c).back)
    ∗ ((wCopies X W c).free 32 ∗ (wCopies X W c).free 33 ∗ bigSep (Finset.Ico 0 32) (wCopies X W c).back)
    ∗ (outH X W c 0 16 ∗ outH X W c 1 16))

/-- The run of device `c`, once it knows its number. -/
def run (c : Dev nD) : TcProg F PUnit :=
  wStart c 0 >>= fun _ => steps (signal c) 15 1 >>= fun _ => barWait >>= fun _ => steps (stStart c) 3 0 >>= fun _ =>
  steps (stageStep c) 16 0 >>= fun _ => steps (compStep c) 16 0 >>= fun _ => steps sendWait 15 1

theorem peer_back' (c : Dev nD) : peer c (16 - 0) = c := by
  apply Fin.ext
  have hc : c.val < 16 := c.isLt
  rw [peer_val]; omega

/-- The device's own block, kept by the last staging step, is the first left block. -/
theorem sent_own (X : XArr F) (c : Dev nD) : sent X c 16 = lhsTodo X c 0 := by
  unfold sent lhsTodo rBlk
  rw [if_neg (by decide), if_pos rfl, show peer c (16 - 0) = c from peer_back' c]
  rfl

/-- The credits left by the sends, with the sending cells' positions, are what the waits for them need. -/
theorem sendFly_all (X : XArr F) (c : Dev nD) :
    iprop(bigSep (Finset.Ico 1 16) (sent X c) ∗ bigSep (Finset.Ico 1 16) (sendPos (F := F) c))
      ⊢ bigSep (Finset.Ico 1 16) (sendFly (F := F) c) := by
  have hone (j : ℕ) (hj : j ∈ Finset.Ico 1 16) : iprop(sent X c j ∗ sendPos (F := F) c j) ⊢ sendFly (F := F) c j := by
    unfold sent sendFly sendPos
    rw [if_pos (Finset.mem_Ico.mp hj).2]
  have hm : bigSep (Finset.Ico 1 16) (fun j => iprop(sent X c j ∗ sendPos (F := F) c j)) ⊢ bigSep (Finset.Ico 1 16) (sendFly (F := F) c) :=
    bigSep_mono hone
  rw [← bigSep_sep']
  exact hm

theorem run_step : Step X W K c (bodyStart X W c) (run c) (bodyEnd X W c) := by
  unfold run bodyStart
  set S := wCopies X W c with hS
  set C := xCopies X W c with hC
  rw [bigSep_Ico_succ_bot (show 0 < 33 by decide) S.todo]
  refine Step.seq (Q := iprop((bigSep (Finset.Ico 1 16) (sigTodo c) ∗ owing c (owedS c 1 + owedB c 1))
    ∗ (cred (tallyAt (barCell c) () 15) ∗ atPos ER (barCell c) 0 ∅ 0)
    ∗ (any c (sdV 0) ∗ bigSep (Finset.Ico 1 16) (sendTok c))
    ∗ bigSep (Finset.Ico 1 16) (sendPos c)
    ∗ bigSep (Finset.Ico 1 16) (lhsTodo X c)
    ∗ (C.free 0 ∗ C.free 1 ∗ C.free 2 ∗ C.free 3 ∗ bigSep (Finset.Ico 0 19) C.todo)
    ∗ (S.slot 0 ∗ S.free 1 ∗ bigSep (Finset.Ico 1 33) S.todo)
    ∗ (outH X W c 0 0 ∗ outH X W c 1 0))) ?_ ?_
  · have h0 : Step X W K c iprop(S.free 0 ∗ S.todo 0) (wStart c 0) (S.slot 0) := S.start 0 (show 0 < 32 by decide)
    refine Step.on iprop(owing c (owedS c 1 + owedB c 1)
      ∗ (cred (tallyAt (barCell c) () 15) ∗ atPos ER (barCell c) 0 ∅ 0)
      ∗ bigSep (Finset.Ico 1 16) (sigTodo c)
      ∗ (any c (sdV 0) ∗ bigSep (Finset.Ico 1 16) (sendTok c))
      ∗ bigSep (Finset.Ico 1 16) (sendPos c)
      ∗ bigSep (Finset.Ico 1 16) (lhsTodo X c)
      ∗ (C.free 0 ∗ C.free 1 ∗ C.free 2 ∗ C.free 3 ∗ bigSep (Finset.Ico 0 19) C.todo)
      ∗ (S.free 1 ∗ bigSep (Finset.Ico 1 33) S.todo)
      ∗ (outH X W c 0 0 ∗ outH X W c 1 0)) h0 ?_ ?_
    · iintro ⟨Ho, Hb, Hs, Hd, Ha, Hl, Hx, ⟨H0, H1, T0, T⟩, HO⟩
      isplitl [H0 T0]; · isplitl [H0] <;> iassumption
      isplitl [Ho]; · iexact Ho
      isplitl [Hb]; · iexact Hb
      isplitl [Hs]; · iexact Hs
      isplitl [Hd]; · iexact Hd
      isplitl [Ha]; · iexact Ha
      isplitl [Hl]; · iexact Hl
      isplitl [Hx]; · iexact Hx
      isplitl [H1 T]; · isplitl [H1] <;> iassumption
      iexact HO
    · iintro ⟨H0, Ho, Hb, Hs, Hd, Ha, Hl, Hx, HT, HO⟩
      isplitl [Hs Ho]; · isplitl [Hs] <;> iassumption
      isplitl [Hb]; · iexact Hb
      isplitl [Hd]; · iexact Hd
      isplitl [Ha]; · iexact Ha
      isplitl [Hl]; · iexact Hl
      isplitl [Hx]; · iexact Hx
      isplitl [H0 HT]; · isplitl [H0] <;> iassumption
      iexact HO
  -- the signals
  refine Step.seq (Step.frame signals_step) ?_
  -- the barrier
  refine Step.seq (Q := iprop((C.free 0 ∗ C.free 1 ∗ C.free 2 ∗ bigSep (Finset.Ico 0 19) C.todo) ∗ C.free 3
    ∗ bigSep (Finset.Ico 1 17) (sendTodo c) ∗ owing c (owedS c 1) ∗ atPos ER (barCell c) 1 ∅ 0
    ∗ bigSep (Finset.Ico 1 16) (sendPos c)
    ∗ bigSep (Finset.Ico 1 16) (lhsTodo X c)
    ∗ (S.slot 0 ∗ S.free 1 ∗ bigSep (Finset.Ico 1 33) S.todo)
    ∗ (outH X W c 0 0 ∗ outH X W c 1 0))) ?_ ?_
  · refine Step.on iprop((any c (sdV 0) ∗ bigSep (Finset.Ico 1 16) (sendTok c))
      ∗ bigSep (Finset.Ico 1 16) (sendPos c)
      ∗ bigSep (Finset.Ico 1 16) (lhsTodo X c)
      ∗ (C.free 0 ∗ C.free 1 ∗ C.free 2 ∗ C.free 3 ∗ bigSep (Finset.Ico 0 19) C.todo)
      ∗ (S.slot 0 ∗ S.free 1 ∗ bigSep (Finset.Ico 1 33) S.todo)
      ∗ (outH X W c 0 0 ∗ outH X W c 1 0)) barWait_step ?_ ?_
    · iintro ⟨Ho, ⟨Hc, Ha⟩, H⟩
      isplitr [H]
      · isplitl [Hc]; · iexact Hc
        isplitl [Ha] <;> iassumption
      iexact H
    · iintro ⟨⟨Hp, Hb, Ho⟩, Hd, Ha, Hl, ⟨H0, H1, H2, H3, HT⟩, HW, HO⟩
      isplitl [H0 H1 H2 HT]
      · isplitl [H0]; · iexact H0
        isplitl [H1]; · iexact H1
        isplitl [H2] <;> iassumption
      isplitl [H3]; · iexact H3
      isplitl [Hp Hd]
      · iapply (sendTodo_all c)
        isplitl [Hp] <;> iassumption
      isplitl [Ho]; · iexact Ho
      isplitl [Hb]; · iexact Hb
      isplitl [Ha]; · iexact Ha
      isplitl [Hl]; · iexact Hl
      isplitl [HW] <;> iassumption
  -- the first copies
  refine Step.seq (Step.frame firsts_step) ?_
  -- the staging loop
  refine Step.seq (Q := iprop(stageInv X W c 16 ∗ atPos ER (barCell c) 1 ∅ 0
    ∗ bigSep (Finset.Ico 1 16) (sendPos c)
    ∗ bigSep (Finset.Ico 1 16) (lhsTodo X c)
    ∗ (S.slot 0 ∗ S.free 1 ∗ bigSep (Finset.Ico 1 33) S.todo)
    ∗ (outH X W c 0 0 ∗ outH X W c 1 0))) ?_ ?_
  · refine Step.on iprop(atPos ER (barCell c) 1 ∅ 0
      ∗ bigSep (Finset.Ico 1 16) (sendPos c)
      ∗ bigSep (Finset.Ico 1 16) (lhsTodo X c)
      ∗ (S.slot 0 ∗ S.free 1 ∗ bigSep (Finset.Ico 1 33) S.todo)
      ∗ (outH X W c 0 0 ∗ outH X W c 1 0)) (Step.loop (stageInv X W c) 16 0 fun i _ hi => stage_step i (by omega)) ?_
      (BIBase.Entails.of_eq rfl)
    unfold stageInv
    dsimp only
    rw [Finset.Ico_self, bigSep_empty, Finset.Ico_self, bigSep_empty, ← hC]
    iintro ⟨⟨H0, H1, H2, HT⟩, H3, HS, Ho, H⟩
    isplitr [H]
    · isplitl [H0 H1 H2 H3]
      · isplitl [H0]; · iexact H0
        isplitl [H1]; · iexact H1
        isplitl [H2] <;> iassumption
      isplitl [HT]
      · isplitl [HT]; · iexact HT
        iempintro
      isplitl [HS]
      · isplitl [HS]; · iexact HS
        iempintro
      iexact Ho
    iexact H
  -- the computing loop
  refine Step.seq (Q := iprop(compInv X W c 16 ∗ atPos ER (barCell c) 1 ∅ 0 ∗ bigSep (Finset.Ico 1 16) (sendFly c)
    ∗ (C.free 16 ∗ C.free 17 ∗ C.free 18 ∗ C.free 19 ∗ bigSep (Finset.Ico 0 16) C.back))) ?_ ?_
  · refine Step.on iprop(atPos ER (barCell c) 1 ∅ 0 ∗ bigSep (Finset.Ico 1 16) (sendFly c)
      ∗ (C.free 16 ∗ C.free 17 ∗ C.free 18 ∗ C.free 19 ∗ bigSep (Finset.Ico 0 16) C.back))
      (Step.loop (compInv X W c) 16 0 fun d _ hd => comp_step d (by omega)) ?_ (BIBase.Entails.of_eq rfl)
    unfold stageInv compInv
    dsimp only
    rw [bigSep_Ico_succ_top (show 1 ≤ 16 by decide) (sent X c), sent_own,
      bigSep_Ico_succ_bot (show 0 < 16 by decide) (lhsTodo X c), Finset.Ico_self, Finset.Ico_self, bigSep_empty, bigSep_empty,
      ← hC, ← hS, C.slot_free 16 (show ¬ 16 < 16 by decide), C.slot_free (16 + 1) (show ¬ 16 + 1 < 16 by decide),
      C.slot_free (16 + 2) (show ¬ 16 + 2 < 16 by decide)]
    iintro ⟨⟨⟨H0, H1, H2, H3⟩, ⟨-, HB⟩, ⟨-, ⟨Hw, HC⟩⟩, Ho⟩, Hb, Ha, Hl, ⟨W0, W1, WT⟩, HO⟩
    isplitl [Hw Ho Hl W0 W1 WT HO]
    · isplitl [W0 W1]; · isplitl [W0] <;> iassumption
      isplitl [WT]
      · isplitl [WT]; · iexact WT
        iempintro
      isplitl [Hw Hl]
      · isplitl [Hw Hl]; · isplitl [Hw] <;> iassumption
        iempintro
      isplitl [HO]; · iexact HO
      iexact Ho
    isplitl [Hb]; · iexact Hb
    isplitl [HC Ha]
    · iapply (sendFly_all X c)
      isplitl [HC] <;> iassumption
    isplitl [H0]; · iexact H0
    isplitl [H1]; · iexact H1
    isplitl [H2]; · iexact H2
    isplitl [H3] <;> iassumption
  -- the waits for the sends
  refine Step.on iprop(atPos ER (barCell c) 1 ∅ 0 ∗ bigSep (Finset.Ico 0 16) (lhsDone X c)
    ∗ (C.free 16 ∗ C.free 17 ∗ C.free 18 ∗ C.free 19 ∗ bigSep (Finset.Ico 0 16) C.back)
    ∗ (S.free 32 ∗ S.free 33 ∗ bigSep (Finset.Ico 0 32) S.back)
    ∗ (outH X W c 0 16 ∗ outH X W c 1 16)) sendWaits_step ?_ ?_
  · unfold compInv
    dsimp only
    rw [owedS_end, ← hS, S.slot_free (2 * 16) (show ¬ 2 * 16 < 32 by decide)]
    iintro ⟨⟨⟨W0, W1⟩, ⟨-, WB⟩, ⟨-, HD⟩, HO, Ho⟩, Hb, HF, HX⟩
    isplitl [HF Ho]; · isplitl [HF] <;> iassumption
    isplitl [Hb]; · iexact Hb
    isplitl [HD]; · iexact HD
    isplitl [HX]; · iexact HX
    isplitl [W0 W1 WB]
    · isplitl [W0]; · iexact W0
      isplitl [W1] <;> iassumption
    iexact HO
  · unfold bodyEnd
    rw [← hS, ← hC]
    iintro ⟨⟨HS, Ho⟩, Hb, HD, H⟩
    isplitl [Ho]; · iexact Ho
    isplitl [Hb]; · iexact Hb
    isplitl [HS]; · iexact HS
    isplitl [HD]; · iexact HD
    iexact H

end Cert.KernelIdeal.A2A
-- ==== Proof.Split.lean ====
/-
A buffer in blocks. A buffer held whole is its blocks held apart, and blocks held apart at contents of
their own are the buffer held whole at some contents. The blocks are given by a number for every index:
the number of the block it lies in.
-/
module

public import proofs.«01_k».proof.Proof.Body

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer is its `n` blocks. -/
theorem split_blocks {ℓ : Loc nD τ sig} (n : ℕ) (I : ℕ → Finset (Idx ℓ)) (key : Idx ℓ → ℕ) (hk : ∀ x, key x < n)
    (hI : ∀ i < n, ∀ x, Iff (x ∈ I i) (key x = i)) (f : Buf (Elt F) ℓ) :
    ((ℓ ↦{fullShare} f) : sProp 𝕄) = bigSep (Finset.Ico 0 n) (fun i => (ℓ ↦[I i]{fullShare} f : sProp 𝕄)) := by
  rw [← pointsTo_biUnion (Finset.Ico 0 n) I (fun i hi j hj hij => Finset.disjoint_left.mpr fun x hx hx' =>
    hij (((hI i (Finset.mem_Ico.mp hi).2 x).mp hx).symm.trans ((hI j (Finset.mem_Ico.mp hj).2 x).mp hx')))]
  congr 1
  symm
  refine Finset.eq_univ_iff_forall.mpr fun x => Finset.mem_biUnion.mpr ⟨key x, Finset.mem_Ico.mpr ⟨Nat.zero_le _, hk x⟩, ?_⟩
  exact (hI _ (hk x) x).mpr rfl

/-- The blocks, each at contents of its own, are the buffer at some contents. -/
theorem join_blocks {ℓ : Loc nD τ sig} (n : ℕ) (I : ℕ → Finset (Idx ℓ)) (key : Idx ℓ → ℕ) (hk : ∀ x, key x < n)
    (hI : ∀ i < n, ∀ x, Iff (x ∈ I i) (key x = i)) :
    bigSep (Finset.Ico 0 n) (fun i => (iprop(∃ f : Buf (Elt F) ℓ, ℓ ↦[I i]{fullShare} f) : sProp 𝕄))
      ⊢ (iprop(∃ f : Buf (Elt F) ℓ, ℓ ↦{fullShare} f) : sProp 𝕄) := by
  have : Nonempty (Buf (Elt F) ℓ) := ⟨fun _ => Classical.choice inferInstance⟩
  have hp := bigSep_exists_pi (Finset.Ico 0 n) (fun i (f : Buf (Elt F) ℓ) => (ℓ ↦[I i]{fullShare} f : sProp 𝕄))
  have hj (fs : ℕ → Buf (Elt F) ℓ) := pointsTo_biUnion_join (Ix := Unit) (Name := ℕ) (U := UU) (Lvl := ℕ) (q := fullShare) (Finset.Ico 0 n) I fs (Classical.choice this)
    (fun i hi j hj hij => Finset.disjoint_left.mpr fun x hx hx' =>
      hij (((hI i (Finset.mem_Ico.mp hi).2 x).mp hx).symm.trans ((hI j (Finset.mem_Ico.mp hj).2 x).mp hx')))
  have hu : (Finset.Ico 0 n).biUnion I = Finset.univ :=
    Finset.eq_univ_iff_forall.mpr fun x => Finset.mem_biUnion.mpr ⟨key x, Finset.mem_Ico.mpr ⟨Nat.zero_le _, hk x⟩, (hI _ (hk x) x).mpr rfl⟩
  rw [hu] at hj
  iintro H
  ihave H := hp $$ H
  icases H with ⟨%fs, H⟩
  ihave H := (hj fs) $$ H
  icases H with ⟨%g, -, H⟩
  iexists g; iexact H

/-! ## The slots of the scratch buffers -/

/-- The first coordinate says which slot of a buffer of slots an index lies in. -/
theorem mem_slot {n a b : ℕ} (k : ℕ) (hk : k < n)
    (p : ∀ i, (![k % n, 0, 0] : Fin 3 → ℕ) i + (⟨3, ![1, a, b]⟩ : Shape).size i ≤ (⟨3, ![n, a, b]⟩ : Shape).size i)
    (x : (⟨3, ![n, a, b]⟩ : Shape).Idx) :
    Iff (x ∈ (Rect.unit (s := ⟨3, ![n, a, b]⟩) ![k % n, 0, 0] (⟨3, ![1, a, b]⟩ : Shape).size p).set) ((x 0).val = k) := by
  rw [Rect.mem_set_unit]
  have h1 : (x 1).val < a := (x 1).isLt
  have h2 : (x 2).val < b := (x 2).isLt
  rw [Nat.mod_eq_of_lt hk]
  constructor
  · intro h
    have h0 := h 0
    change k ≤ (x 0).val ∧ (x 0).val < k + 1 at h0
    omega
  · intro h i
    fin_cases i
    · show k ≤ (x 0).val ∧ (x 0).val < k + 1; omega
    · show 0 ≤ (x 1).val ∧ (x 1).val < 0 + a; omega
    · show 0 ≤ (x 2).val ∧ (x 2).val < 0 + b; omega

theorem mem_st (s : ℕ) (hs : s < 4) (x : S4x512x512.Idx) : Iff (x ∈ (stV s).view.set) ((x 0).val = s) := by
  show Iff (x ∈ ((((View.whole cc0_scratch0).slice (stR s)).reshape S512x512 squeezes_S1x512x512_S512x512.numel_eq).set : Finset S4x512x512.Idx)) _
  rw [View.set_reshape, View.set_slice_whole]
  exact mem_slot s hs (inb_st s) x
theorem mem_sd (s : ℕ) (hs : s < 16) (x : S16x512x512.Idx) : Iff (x ∈ (sdV s).view.set) ((x 0).val = s) := by
  show Iff (x ∈ ((((View.whole cc0_scratch1).slice (blkR s)).reshape S512x512 squeezes_S1x512x512_S512x512.numel_eq).set : Finset S16x512x512.Idx)) _
  rw [View.set_reshape, View.set_slice_whole]
  exact mem_slot s hs (inb_blk s) x
theorem mem_rv (s : ℕ) (hs : s < 16) (x : S16x512x512.Idx) : Iff (x ∈ (rvV s).view.set) ((x 0).val = s) := by
  show Iff (x ∈ ((((View.whole cc0_scratch2).slice (blkR s)).reshape S512x512 squeezes_S1x512x512_S512x512.numel_eq).set : Finset S16x512x512.Idx)) _
  rw [View.set_reshape, View.set_slice_whole]
  exact mem_slot s hs (inb_blk s) x
theorem mem_wb (s : ℕ) (hs : s < 2) (x : S2x512x2048.Idx) : Iff (x ∈ (wbV s).view.set) ((x 0).val = s) := by
  show Iff (x ∈ ((((View.whole cc0_scratch3).slice (wbR s)).reshape S512x2048 squeezes_S1x512x2048_S512x2048.numel_eq).set : Finset S2x512x2048.Idx)) _
  rw [View.set_reshape, View.set_slice_whole]
  exact mem_slot s hs (inb_wb s) x

/-- A scratch buffer whole, at some contents. -/
abbrev whole (c : Dev nD) (b : Ref sig .tc) : sProp 𝕄 :=
  iprop(∃ f : Buf (Elt F) ((c : Thread nD τ).loc b), ((c : Thread nD τ).loc b) ↦{fullShare} f)

/-- Whole, it is its slots; -/
theorem slots_of (c : Dev nD) (b : Ref sig .tc) {sp : Space} {s : Shape} {e : EltTy} (v : ℕ → Memref sig .tc sp s e) (n : ℕ)
    (I : ℕ → Finset (Idx ((c : Thread nD τ).loc b))) (key : Idx ((c : Thread nD τ).loc b) → ℕ) (hk : ∀ x, key x < n)
    (hI : ∀ i < n, ∀ x, Iff (x ∈ I i) (key x = i))
    (hv : ∀ i, any (F := F) c (v i) = iprop(∃ f : Buf (Elt F) ((c : Thread nD τ).loc b), ((c : Thread nD τ).loc b) ↦[I i]{fullShare} f)) :
    whole (F := F) c b ⊢ bigSep (Finset.Ico 0 n) (fun i => any (F := F) c (v i)) := by
  iintro ⟨%f, H⟩
  ihave H := (Entails.of_eq (split_blocks n I key hk hI f)) $$ H
  have hm : bigSep (Finset.Ico 0 n) (fun i => (((c : Thread nD τ).loc b) ↦[I i]{fullShare} f : sProp 𝕄))
      ⊢ bigSep (Finset.Ico 0 n) (fun i => any (F := F) c (v i)) := bigSep_mono fun i _ => by
    have h1 : (((c : Thread nD τ).loc b) ↦[I i]{fullShare} f : sProp 𝕄) ⊢ any (F := F) c (v i) := by
      rw [hv]; iintro H; iexists f; iexact H
    exact h1
  iapply hm; iexact H
/-- and its slots are it. -/
theorem of_slots (c : Dev nD) (b : Ref sig .tc) {sp : Space} {s : Shape} {e : EltTy} (v : ℕ → Memref sig .tc sp s e) (n : ℕ)
    (I : ℕ → Finset (Idx ((c : Thread nD τ).loc b))) (key : Idx ((c : Thread nD τ).loc b) → ℕ) (hk : ∀ x, key x < n)
    (hI : ∀ i < n, ∀ x, Iff (x ∈ I i) (key x = i))
    (hv : ∀ i, any (F := F) c (v i) = iprop(∃ f : Buf (Elt F) ((c : Thread nD τ).loc b), ((c : Thread nD τ).loc b) ↦[I i]{fullShare} f)) :
    bigSep (Finset.Ico 0 n) (fun i => any (F := F) c (v i)) ⊢ whole (F := F) c b := by
  refine BIBase.Entails.trans ?_ (join_blocks n I key hk hI)
  exact bigSep_mono fun i _ => Entails.of_eq (hv i)

section Scratch
variable (c : Dev nD)

theorem st_slots : whole (F := F) c cc0_scratch0 ⊢ bigSep (Finset.Ico 0 4) (fun i => any (F := F) c (stV i)) :=
  slots_of c cc0_scratch0 stV 4 (fun i => (stV i).view.set) (fun x => (x 0).val) (fun x => (x 0).isLt) mem_st (fun _ => rfl)
theorem sd_slots : whole (F := F) c cc0_scratch1 ⊢ bigSep (Finset.Ico 0 16) (fun i => any (F := F) c (sdV i)) :=
  slots_of c cc0_scratch1 sdV 16 (fun i => (sdV i).view.set) (fun x => (x 0).val) (fun x => (x 0).isLt) mem_sd (fun _ => rfl)
theorem rv_slots : whole (F := F) c cc0_scratch2 ⊢ bigSep (Finset.Ico 0 16) (fun i => any (F := F) c (rvV i)) :=
  slots_of c cc0_scratch2 rvV 16 (fun i => (rvV i).view.set) (fun x => (x 0).val) (fun x => (x 0).isLt) mem_rv (fun _ => rfl)
theorem wb_slots : whole (F := F) c cc0_scratch3 ⊢ bigSep (Finset.Ico 0 2) (fun i => any (F := F) c (wbV i)) :=
  slots_of c cc0_scratch3 wbV 2 (fun i => (wbV i).view.set) (fun x => (x 0).val) (fun x => (x 0).isLt) mem_wb (fun _ => rfl)

theorem slots_st : bigSep (Finset.Ico 0 4) (fun i => any (F := F) c (stV i)) ⊢ whole (F := F) c cc0_scratch0 :=
  of_slots c cc0_scratch0 stV 4 (fun i => (stV i).view.set) (fun x => (x 0).val) (fun x => (x 0).isLt) mem_st (fun _ => rfl)
theorem slots_sd : bigSep (Finset.Ico 0 16) (fun i => any (F := F) c (sdV i)) ⊢ whole (F := F) c cc0_scratch1 :=
  of_slots c cc0_scratch1 sdV 16 (fun i => (sdV i).view.set) (fun x => (x 0).val) (fun x => (x 0).isLt) mem_sd (fun _ => rfl)
theorem slots_rv : bigSep (Finset.Ico 0 16) (fun i => any (F := F) c (rvV i)) ⊢ whole (F := F) c cc0_scratch2 :=
  of_slots c cc0_scratch2 rvV 16 (fun i => (rvV i).view.set) (fun x => (x 0).val) (fun x => (x 0).isLt) mem_rv (fun _ => rfl)
theorem slots_wb : bigSep (Finset.Ico 0 2) (fun i => any (F := F) c (wbV i)) ⊢ whole (F := F) c cc0_scratch3 :=
  of_slots c cc0_scratch3 wbV 2 (fun i => (wbV i).view.set) (fun x => (x 0).val) (fun x => (x 0).isLt) mem_wb (fun _ => rfl)

end Scratch

/-! ## The blocks of the arguments -/

/-- The indices of the activations under row block `(c + j) mod 16`. -/
def xSet (c : Dev nD) (j : ℕ) : Finset S8192x512.Idx := (xV c j).view.set
theorem held_x (c : Dev nD) (j : ℕ) (f : Buf (Elt F) ((c : Thread nD τ).loc main_arg0)) :
    held c (xV c j) f = (((c : Thread nD τ).loc main_arg0) ↦[xSet c j]{fullShare} f : sProp 𝕄) := rfl

/-- The activations are the sources of the staging copies. -/
theorem mem_x (c : Dev nD) (j : ℕ) (x : S8192x512.Idx) :
    Iff (x ∈ xSet c j) ((x 0).val / 512 = (c.val + j) % 16) := by
  show Iff (x ∈ (((View.whole main_arg0).slice (xR c j)).set : Finset S8192x512.Idx)) _
  have hc : c.val < 16 := c.isLt
  have h0 : (x 0).val < 8192 := (x 0).isLt
  have h1 : (x 1).val < 512 := (x 1).isLt
  rw [View.set_slice_whole, Rect.mem_set_unit]
  have ho : k0_off2 c (BitVec.ofNat 32 (j % 16)) = ![512 * ((c.val + j % 16) % 16), 0] :=
    k0_off2_eq c ⟨j % 16, Nat.mod_lt _ (by decide)⟩
  rw [ho]
  constructor
  · intro h
    have h0 := h 0
    change 512 * ((c.val + j % 16) % 16) ≤ (x 0).val ∧ (x 0).val < 512 * ((c.val + j % 16) % 16) + 512 at h0
    omega
  · intro h i
    fin_cases i
    · show 512 * ((c.val + j % 16) % 16) ≤ (x 0).val ∧ (x 0).val < 512 * ((c.val + j % 16) % 16) + 512
      omega
    · show 0 ≤ (x 1).val ∧ (x 1).val < 0 + 512; omega
theorem mem_xV (c : Dev nD) (k : ℕ) (hk : k < 16) (x : S8192x512.Idx) :
    Iff (x ∈ xSet c (k + 1)) (((x 0).val / 512 + (15 - c.val)) % 16 = k) := by
  have hc : c.val < 16 := c.isLt
  have h0 : (x 0).val < 8192 := (x 0).isLt
  rw [mem_x]; omega

/-- The weights are the sources of the weights' copies. -/
theorem mem_wV (c : Dev nD) (k : ℕ) (hk : k < 32) (x : S8192x4096.Idx) :
    Iff (x ∈ ((wV c k).view.set : Finset S8192x4096.Idx)) (2 * ((c.val + 16 - (x 0).val / 512) % 16) + (x 1).val / 2048 = k) := by
  show Iff (x ∈ (((View.whole main_arg1).slice (wR c k)).set : Finset S8192x4096.Idx)) _
  have hc : c.val < 16 := c.isLt
  have h0 : (x 0).val < 8192 := (x 0).isLt
  have h1 : (x 1).val < 4096 := (x 1).isLt
  rw [View.set_slice_whole, Rect.mem_set_unit, wOff_eq]
  constructor
  · intro h
    have h0 := h 0
    have h1 := h 1
    change 512 * ((c.val + (15 - k / 2 % 16) + 1) % 16) ≤ (x 0).val ∧ (x 0).val < 512 * ((c.val + (15 - k / 2 % 16) + 1) % 16) + 512 at h0
    change 2048 * (k % 2) ≤ (x 1).val ∧ (x 1).val < 2048 * (k % 2) + 2048 at h1
    omega
  · intro h i
    fin_cases i
    · show 512 * ((c.val + (15 - k / 2 % 16) + 1) % 16) ≤ (x 0).val ∧ (x 0).val < 512 * ((c.val + (15 - k / 2 % 16) + 1) % 16) + 512
      omega
    · show 2048 * (k % 2) ≤ (x 1).val ∧ (x 1).val < 2048 * (k % 2) + 2048
      omega

theorem x_blocks (X : XArr F) (W : WArr F) (c : Dev nD) :
    ((((c : Thread nD τ).loc main_arg0) ↦{fullShare} X c) : sProp 𝕄) = bigSep (Finset.Ico 0 16) (xCopies X W c).back := by
  rw [split_blocks (ℓ := (c : Thread nD τ).loc main_arg0) 16 (fun k => xSet c (k + 1))
    (fun x : S8192x512.Idx => ((x 0).val / 512 + (15 - c.val)) % 16) (fun _ => Nat.mod_lt _ (by decide)) (mem_xV c) (X c)]
  exact bigSep_congr fun k _ => (held_x c (k + 1) (X c)).symm
theorem w_blocks (X : XArr F) (W : WArr F) (c : Dev nD) :
    ((((c : Thread nD τ).loc main_arg1) ↦{fullShare} W c) : sProp 𝕄) = bigSep (Finset.Ico 0 32) (wCopies X W c).back :=
  split_blocks (ℓ := (c : Thread nD τ).loc main_arg1) 32 (fun k => (wV c k).view.set) (fun x : S8192x4096.Idx => 2 * ((c.val + 16 - (x 0).val / 512) % 16) + (x 1).val / 2048)
    (fun x : S8192x4096.Idx => by
      have h1 : (x 1).val < 4096 := (x 1).isLt
      have h0 := Nat.mod_lt (c.val + 16 - (x 0).val / 512) (show 0 < 16 by decide)
      dsimp only; omega) (mem_wV c) (W c)

/-! ## The halves of the result -/

theorem mem_oV (h : ℕ) (hh : h < 2) (x : S512x4096.Idx) : Iff (x ∈ (oV h).view.set) ((x 1).val / 2048 = h) := by
  show Iff (x ∈ ((View.whole cc0_stg0_0).slice (oR h)).set) _
  have h0 : (x 0).val < 512 := (x 0).isLt
  have h1 : (x 1).val < 4096 := (x 1).isLt
  rw [View.set_slice_whole, Rect.mem_set_unit]
  constructor
  · intro hx
    have h1 := hx 1
    change 2048 * (h % 2) ≤ (x 1).val ∧ (x 1).val < 2048 * (h % 2) + 2048 at h1
    omega
  · intro hx i
    fin_cases i
    · show 0 ≤ (x 0).val ∧ (x 0).val < 0 + 512; omega
    · show 2048 * (h % 2) ≤ (x 1).val ∧ (x 1).val < 2048 * (h % 2) + 2048; omega

/-- The result's block on device `c`: the two halves side by side. -/
def outV (X : XArr F) (W : WArr F) (c : Dev nD) : (cc0_stg0_0 : Ref sig .tc).ty.Contents (Elt F) := fun x : S512x4096.Idx =>
  halfV X W c ((x 1).val / 2048) 15 (fun a => match a with
    | 0 => ⟨(x 0).val, (x 0).isLt⟩
    | 1 => ⟨(x 1).val % 2048, Nat.mod_lt _ (by decide)⟩)

theorem out_half (X : XArr F) (W : WArr F) (c : Dev nD) (h : ℕ) (hh : h < 2) :
    outH X W c h 16 ⊢ (((c : Thread nD τ).loc cc0_stg0_0) ↦[(oV h).view.set]{fullShare} outV X W c : sProp 𝕄) := by
  rw [outH_succ]
  unfold reads owns
  iintro ⟨%f, %hf, H⟩
  have he : (((c : Thread nD τ).loc cc0_stg0_0) ↦[(oV h).view.set]{fullShare} f : sProp 𝕄)
      = (((c : Thread nD τ).loc cc0_stg0_0) ↦[(oV h).view.set]{fullShare} outV X W c : sProp 𝕄) := pointsTo_congr fun x hx => by
    obtain ⟨i, -, rfl⟩ := Finset.mem_map.mp hx
    have h1 : (i 1).val < 2048 := (i 1).isLt
    have e0 : ((oV h).view.emb i 0).val = (i 0).val := by
      show 0 + 1 * (i 0).val = _; omega
    have e1 : ((oV h).view.emb i 1).val = 2048 * (h % 2) + (i 1).val := by
      show 2048 * (h % 2) + 1 * (i 1).val = _; omega
    have hr : f ((oV h).view.emb i) = halfV X W c h 15 i := congrFun hf i
    rw [hr]
    unfold outV
    rw [show ((oV h).view.emb i 1).val / 2048 = h by omega]
    congr 1
    funext a
    fin_cases a
    · exact Fin.ext e0.symm
    · exact Fin.ext (show (i 1).val = ((oV h).view.emb i 1).val % 2048 by omega)
  ihave H := (Entails.of_eq he) $$ H
  iexact H

/-- At the end the halves are the result's block; -/
theorem out_join (X : XArr F) (W : WArr F) (c : Dev nD) :
    iprop(outH X W c 0 16 ∗ outH X W c 1 16) ⊢ (((c : Thread nD τ).loc cc0_stg0_0) ↦{fullShare} outV X W c : sProp 𝕄) := by
  rw [split_blocks (ℓ := (c : Thread nD τ).loc cc0_stg0_0) 2 (fun h => (oV h).view.set) (fun x : S512x4096.Idx => (x 1).val / 2048)
    (fun x : S512x4096.Idx => by have h1 : (x 1).val < 4096 := (x 1).isLt; dsimp only; omega) mem_oV (outV X W c),
    bigSep_Ico_succ_bot (show 0 < 2 by decide), bigSep_Ico_succ_bot (show 1 < 2 by decide), Finset.Ico_self, bigSep_empty]
  iintro ⟨H0, H1⟩
  isplitl [H0]; · iapply (out_half X W c 0 (by decide)); iexact H0
  isplitl [H1]; · iapply (out_half X W c 1 (by decide)); iexact H1
  iempintro
/-- at the start the block is two halves. -/
theorem out_split (X : XArr F) (W : WArr F) (c : Dev nD) (f : Buf (Elt F) ((c : Thread nD τ).loc cc0_stg0_0)) :
    (((c : Thread nD τ).loc cc0_stg0_0) ↦{fullShare} f : sProp 𝕄) ⊢ iprop(outH X W c 0 0 ∗ outH X W c 1 0) := by
  rw [split_blocks (ℓ := (c : Thread nD τ).loc cc0_stg0_0) 2 (fun h => (oV h).view.set) (fun x : S512x4096.Idx => (x 1).val / 2048)
    (fun x : S512x4096.Idx => by have h1 : (x 1).val < 4096 := (x 1).isLt; dsimp only; omega) mem_oV f,
    bigSep_Ico_succ_bot (show 0 < 2 by decide), bigSep_Ico_succ_bot (show 1 < 2 by decide), Finset.Ico_self, bigSep_empty,
    outH_zero, outH_zero]
  iintro ⟨H0, H1, -⟩
  isplitl [H0]
  · iapply (any_reads c (oV 0)); unfold any held; iexists f; iexact H0
  · iapply (any_reads c (oV 1)); unfold any held; iexists f; iexact H1

end Cert.KernelIdeal.A2A
-- ==== Proof.Cells.lean ====
/-
The cells and the duties of a device, all of them, grouped as a run uses them: the barrier, the sending
and receiving cells, the cells of the slots; the duties a device pays; and the credits it starts with.
-/
module

public import proofs.«01_k».proof.Proof.Split

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over ranges of numbers -/

section Ranges
variable {M : Type} [URA M]

/-- Over all of `Fin n` and over the numbers below `n`. -/
theorem bigSep_fin (n : ℕ) (D : Fin n → sProp M) (Ψ : ℕ → sProp M) (h : ∀ i : Fin n, Ψ i.val = D i) :
    bigSep Finset.univ D = bigSep (Finset.Ico 0 n) Ψ := by
  rw [Ring.bigSep_fin_eq_range n D Ψ (fun t ht => h ⟨t, ht⟩), Finset.range_eq_Ico]
/-- Shifted. -/
theorem bigSep_shift (a n : ℕ) (Ψ : ℕ → sProp M) : bigSep (Finset.Ico a (a + n)) Ψ = bigSep (Finset.Ico 0 n) (fun i => Ψ (a + i)) := by
  rw [show Finset.Ico a (a + n) = (Finset.Ico 0 n).map (addLeftEmbedding a) by
    ext x; simp only [Finset.mem_map, Finset.mem_Ico, addLeftEmbedding_apply]
    exact ⟨fun h => ⟨x - a, by omega, by omega⟩, fun ⟨y, h1, h2⟩ => by omega⟩, bigSep_map]
  rfl
/-- Cut in two. -/
theorem bigSep_cut (a b n : ℕ) (h1 : a ≤ b) (h2 : b ≤ n) (Ψ : ℕ → sProp M) :
    bigSep (Finset.Ico a n) Ψ = iprop(bigSep (Finset.Ico a b) Ψ ∗ bigSep (Finset.Ico b n) Ψ) := by
  rw [← Finset.Ico_union_Ico_eq_Ico h1 h2, bigSep_union (Finset.Ico_disjoint_Ico_consecutive a b n)]; rfl
end Ranges

theorem eq_of_both {P Q : sProp (MT nD τ sig Unit (Elt F) ℕ UU ℕ)} (h : P ⊢ Q) (h' : Q ⊢ P) : P = Q :=
  Idealize.SL.BI.equiv_iff.mp ⟨h, h'⟩

/-! ## The cells of a device -/

/-- All 39 semaphores: the barrier, the unused sending and receiving ones, the fifteen sending, the fifteen
    receiving, the four of the staging slots and the two of the weights slots. -/
theorem cells_split (Φ : Fin 39 → sProp 𝕄) : bigSep Finset.univ Φ
    = iprop(Φ 0 ∗ (Φ 1 ∗ Φ 17) ∗ bigSep (Finset.Ico 1 16) (fun j => Φ (sendS j)) ∗ bigSep (Finset.Ico 1 16) (fun j => Φ (recvS j))
      ∗ bigSep (Finset.Ico 0 4) (fun j => Φ (stS j)) ∗ bigSep (Finset.Ico 0 2) (fun j => Φ (wS j))) := by
  have hΨ : ∃ Ψ : ℕ → sProp 𝕄, ∀ i : Fin 39, Ψ i.val = Φ i :=
    ⟨fun n => if h : n < 39 then Φ ⟨n, h⟩ else iprop(emp), fun i => dif_pos i.isLt⟩
  obtain ⟨Ψ, h⟩ := hΨ
  have hsd (j : ℕ) (hj : j < 16) : Ψ (1 + j) = Φ (sendS j) := by
    rw [← h]; congr 1; rw [sendS_val]; omega
  have hrv (j : ℕ) (hj : j < 16) : Ψ (17 + j) = Φ (recvS j) := by
    rw [← h]; congr 1; rw [recvS_val]; omega
  have hst (j : ℕ) (hj : j < 4) : Ψ (33 + j) = Φ (stS j) := by
    rw [← h]; congr 1; rw [stS_val]; omega
  have hw (j : ℕ) (hj : j < 2) : Ψ (37 + j) = Φ (wS j) := by
    rw [← h]; congr 1; rw [wS_val]; omega
  rw [bigSep_fin 39 Φ Ψ h, bigSep_cut 0 1 39 (by decide) (by decide), bigSep_cut 1 17 39 (by decide) (by decide),
    bigSep_cut 17 33 39 (by decide) (by decide), bigSep_cut 33 37 39 (by decide) (by decide),
    bigSep_shift 1 16 Ψ, bigSep_shift 17 16 Ψ, bigSep_shift 33 4 Ψ, bigSep_shift 37 2 Ψ,
    bigSep_congr (s := Finset.Ico 0 16) (fun j hj => hsd j (Finset.mem_Ico.mp hj).2),
    bigSep_congr (s := Finset.Ico 0 16) (fun j hj => hrv j (Finset.mem_Ico.mp hj).2),
    bigSep_congr (s := Finset.Ico 0 4) (fun j hj => hst j (Finset.mem_Ico.mp hj).2),
    bigSep_congr (s := Finset.Ico 0 2) (fun j hj => hw j (Finset.mem_Ico.mp hj).2),
    bigSep_cut 0 1 16 (by decide) (by decide) (fun j => Φ (sendS j)), bigSep_cut 0 1 16 (by decide) (by decide) (fun j => Φ (recvS j))]
  have e1 (Θ : ℕ → sProp 𝕄) : bigSep (Finset.Ico 0 1) Θ = Θ 0 := by
    rw [show Finset.Ico 0 1 = {0} from rfl, bigSep_singleton]
  rw [e1, e1, e1, ← hsd 0 (by decide), ← hrv 0 (by decide)]
  rw [show Ψ 0 = Φ 0 from h 0, show Ψ (1 + 0) = Φ 1 from h 1, show Ψ (17 + 0) = Φ 17 from h 17]
  refine eq_of_both ?_ ?_
  · iintro ⟨H0, ⟨H1, Hs⟩, ⟨H17, Hr⟩, Ht, Hw⟩
    isplitl [H0]; · iexact H0
    isplitl [H1 H17]; · isplitl [H1] <;> iassumption
    isplitl [Hs]; · iexact Hs
    isplitl [Hr]; · iexact Hr
    isplitl [Ht]; · iexact Ht
    iexact Hw
  · iintro ⟨H0, ⟨H1, H17⟩, Hs, Hr, Ht, Hw⟩
    isplitl [H0]; · iexact H0
    isplitl [H1 Hs]; · isplitl [H1] <;> iassumption
    isplitl [H17 Hr]; · isplitl [H17] <;> iassumption
    isplitl [Ht]; · iexact Ht
    iexact Hw

/-! ## The duties a device pays -/

/-- Its fifteen signals, its fifteen sends (one duty here, one at the receiver), its staging copies and its
    weights' copies. -/
abbrev Duty : Type := Fin 15 ⊕ Fin 15 ⊕ Fin 15 ⊕ Fin 16 ⊕ Fin 32

/-- The cell, the round and the number of a duty of device `x.1`. -/
def tokOf (x : Dev nD × Duty) : GSem nD τ sig × ℕ × ℕ := match x.2 with
  | .inl j => (barCell (peer x.1 (j.val + 1)), 0, 16 - (j.val + 1))
  | .inr (.inl j) => (dCell x.1 (sendS (j.val + 1)), 0, 0)
  | .inr (.inr (.inl j)) => (dCell (peer x.1 (j.val + 1)) (recvS (j.val + 1)), 0, 0)
  | .inr (.inr (.inr (.inl k))) => (dCell x.1 (stS k.val), k.val / 4, 0)
  | .inr (.inr (.inr (.inr k))) => (dCell x.1 (wS k.val), k.val / 2, 0)

/-- What tells duties apart: the device, the semaphore's number (zero for the barrier), the round, the duty. -/
def code (y : GSem nD τ sig × ℕ × ℕ) : ℕ × ℕ × ℕ × ℕ :=
  (y.1.1.1.val, (match y.1.2 with | .reg _ => 0 | .dma q => q.val), y.2.1, y.2.2)

/-- The code of a duty. -/
def codeOf (x : Dev nD × Duty) : ℕ × ℕ × ℕ × ℕ := match x.2 with
  | .inl j => ((x.1.val + (j.val + 1)) % 16, 0, 0, 16 - (j.val + 1))
  | .inr (.inl j) => (x.1.val, 1 + (j.val + 1) % 16, 0, 0)
  | .inr (.inr (.inl j)) => ((x.1.val + (j.val + 1)) % 16, 17 + (j.val + 1) % 16, 0, 0)
  | .inr (.inr (.inr (.inl k))) => (x.1.val, 33 + k.val % 4, k.val / 4, 0)
  | .inr (.inr (.inr (.inr k))) => (x.1.val, 37 + k.val % 2, k.val / 2, 0)

theorem code_tokOf (x : Dev nD × Duty) : code (tokOf x) = codeOf x := by
  rcases x with ⟨c, j | j | j | k | k⟩
  · show ((peer c (j.val + 1)).val, 0, 0, 16 - (j.val + 1)) = _; rw [peer_val]; rfl
  · show (c.val, (sendS (j.val + 1)).val, 0, 0) = _; rw [sendS_val]; rfl
  · show ((peer c (j.val + 1)).val, (recvS (j.val + 1)).val, 0, 0) = _; rw [peer_val, recvS_val]; rfl
  · show (c.val, (stS k.val).val, k.val / 4, 0) = _; rw [stS_val]; rfl
  · show (c.val, (wS k.val).val, k.val / 2, 0) = _; rw [wS_val]; rfl

theorem codeOf_injective : Function.Injective codeOf := by
  rintro ⟨c, x⟩ ⟨c', x'⟩ h
  have hc : c.val < 16 := c.isLt
  have hc' : c'.val < 16 := c'.isLt
  rcases x with j | j | j | j | j <;> rcases x' with j' | j' | j' | j' | j' <;>
    (simp only [codeOf, Prod.mk.injEq] at h
     obtain ⟨h1, h2, h3, h4⟩ := h
     have hj := j.isLt
     have hj' := j'.isLt
     first
       | (exfalso; omega)
       | (obtain rfl : c = c' := Fin.ext (by omega)
          obtain rfl : j = j' := Fin.ext (by omega)
          rfl))

theorem tokOf_injective : Function.Injective tokOf := fun x x' h =>
  codeOf_injective (by rw [← code_tokOf, ← code_tokOf, h])

/-- The rights to pay a device's duties. -/
def payToks (c : Dev nD) : sProp 𝕄 :=
  iprop(bigSep (Finset.Ico 1 16) (fun j => dutyTok ER (barCell (peer c j)) 0 (16 - j))
    ∗ bigSep (Finset.Ico 1 16) (fun j => dutyTok ER (dCell c (sendS j)) 0 0)
    ∗ bigSep (Finset.Ico 1 16) (fun j => dutyTok ER (dCell (peer c j) (recvS j)) 0 0)
    ∗ bigSep (Finset.Ico 0 16) (fun k => dutyTok ER (dCell c (stS k)) (k / 4) 0)
    ∗ bigSep (Finset.Ico 0 32) (fun k => dutyTok ER (dCell c (wS k)) (k / 2) 0))

theorem fin_one (Ψ : ℕ → sProp 𝕄) : bigSep Finset.univ (fun j : Fin 15 => Ψ (j.val + 1)) = bigSep (Finset.Ico 1 16) Ψ := by
  rw [bigSep_fin 15 _ (fun j => Ψ (j + 1)) (fun _ => rfl), show (16 : ℕ) = 1 + 15 from rfl, bigSep_shift 1 15]
  exact bigSep_congr fun j _ => by rw [Nat.add_comm]

theorem payToks_eq (c : Dev nD) :
    bigSep Finset.univ (fun d : Duty => (dutyTok ER (tokOf (c, d)).1 (tokOf (c, d)).2.1 (tokOf (c, d)).2.2 : sProp 𝕄)) = payToks (F := F) c := by
  rw [bigSep_univ_sum, bigSep_univ_sum, bigSep_univ_sum, bigSep_univ_sum]
  unfold payToks
  rw [← fin_one, ← fin_one, ← fin_one, ← bigSep_fin 16 (fun k : Fin 16 => (dutyTok ER (dCell c (stS k.val)) (k.val / 4) 0 : sProp 𝕄)) _ (fun _ => rfl),
    ← bigSep_fin 32 (fun k : Fin 32 => (dutyTok ER (dCell c (wS k.val)) (k.val / 2) 0 : sProp 𝕄)) _ (fun _ => rfl)]
  rfl

/-! ## The credits a device starts with -/

/-- What a device owes at the start. -/
def O₀ (c : Dev nD) : CellTallies nD τ sig Unit := owedS c 1 + owedB c 1

/-- A sum of tallies of one size, at a cell: how often the cell occurs. -/
theorem sum_tally_at (S : Finset ℕ) (f : ℕ → GSem nD τ sig) (n : ℕ) (g : GSem nD τ sig) :
    (∑ j ∈ S, tallyAt (f j) () n : CellTallies nD τ sig Unit) g () = ∑ j ∈ S, if g = f j then n else 0 := by
  rw [Finset.sum_apply, Finsupp.finset_sum_apply]
  refine Finset.sum_congr rfl fun j _ => ?_
  rw [tallyAt_apply]
  by_cases h : g = f j
  · rw [if_pos ⟨h, rfl⟩, if_pos h]
  · rw [if_neg (fun h' => h h'.1), if_neg h]

theorem peer_eq_iff (c d : Dev nD) (j : ℕ) (hj : j ≤ 16) : Iff (c = peer d j) (d = peer c (16 - j)) := by
  have hc : c.val < 16 := c.isLt
  have hd : d.val < 16 := d.isLt
  constructor <;> intro h <;> apply Fin.ext <;> have h := congrArg Fin.val h <;> rw [peer_val] at * <;> omega

theorem owed_bar (c : Dev nD) : ∑ d : Dev nD, O₀ d (barCell c) () = 15 := by
  have h (d : Dev nD) : O₀ d (barCell c) () = ∑ j ∈ Finset.Ico 1 16, if d = peer c (16 - j) then 1 else 0 := by
    unfold O₀ owedS owedB
    rw [Pi.add_apply, Finsupp.add_apply, sum_tally_at, sum_tally_at]
    rw [Finset.sum_eq_zero (fun j _ => if_neg (fun h => by cases congrArg Prod.snd h)), Nat.zero_add]
    refine Finset.sum_congr rfl fun j hj => ?_
    have hj := Finset.mem_Ico.mp hj
    by_cases h : d = peer c (16 - j)
    · rw [if_pos h, if_pos (by rw [← (peer_eq_iff c d j (by omega)).mpr h])]
    · rw [if_neg h, if_neg fun h' => h ((peer_eq_iff c d j (by omega)).mp (congrArg (fun g : GSem nD τ sig => g.1.1) h'))]
  rw [Finset.sum_congr rfl fun d _ => h d, Finset.sum_comm,
    Finset.sum_congr rfl fun j _ => Finset.sum_ite_eq' Finset.univ (peer c (16 - j)) fun _ => 1,
    Finset.sum_congr rfl fun j _ => if_pos (Finset.mem_univ _)]
  rfl

theorem owed_recv (c : Dev nD) (i : ℕ) (h1 : 1 ≤ i) (h2 : i < 16) : ∑ d : Dev nD, O₀ d (dCell c (recvS i)) () = Nb := by
  have hr := recvS_val i
  have h (d : Dev nD) : O₀ d (dCell c (recvS i)) () = if d = peer c (16 - i) then Nb else 0 := by
    unfold O₀ owedS owedB
    rw [Pi.add_apply, Finsupp.add_apply, sum_tally_at, sum_tally_at]
    rw [Finset.sum_eq_zero (s := Finset.Ico 1 16) (f := fun j => if dCell c (recvS i) = barCell (peer d j) then 1 else 0)
      (fun j _ => if_neg (fun h => by cases congrArg Prod.snd h)), Nat.add_zero, Finset.sum_eq_single i]
    · by_cases h : d = peer c (16 - i)
      · rw [if_pos h, if_pos (by rw [← (peer_eq_iff c d i (by omega)).mpr h])]
      · rw [if_neg h, if_neg fun h' => h ((peer_eq_iff c d i (by omega)).mp (congrArg (fun g : GSem nD τ sig => g.1.1) h'))]
    · intro j hj hji
      have hj := Finset.mem_Ico.mp hj
      refine if_neg fun h' => hji ?_
      have hs : (SemLoc.dma (recvS i) : SemLoc sig) = .dma (recvS j) := congrArg Prod.snd h'
      injection hs with hs
      have := congrArg Fin.val hs
      have := recvS_val j
      omega
    · intro hn; exact absurd (Finset.mem_Ico.mpr ⟨h1, h2⟩) hn
  rw [Finset.sum_congr rfl fun d _ => h d, Finset.sum_ite_eq' Finset.univ (peer c (16 - i)) fun _ => Nb, if_pos (Finset.mem_univ _)]

theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm))
      = (tallyAt ((c : Thread nD τ), sm) () n : CellTallies nD τ sig Unit) := by
  unfold tallyAt; refine congrArg _ (Finsupp.ext fun u => ?_); cases u
  rw [Pipeline.launchCredit_owing, h, Finsupp.single_eq_same]

/-- The credit of the barrier and of the fifteen receiving cells. -/
theorem creds (c : Dev nD) : (Pipeline.launchCred O₀ c : sProp 𝕄)
    ⊢ iprop(cred (tallyAt (barCell c) () 15) ∗ bigSep (Finset.Ico 1 16) (fun j => cred (tallyAt (dCell c (recvS j)) () Nb))) := by
  unfold Pipeline.launchCred
  rw [bigSep_univ_at _ (SemLoc.reg barS), launch_at c _ 15 (owed_bar c)]
  refine sep_mono_right ?_
  have hinj : Set.InjOn (fun j => (SemLoc.dma (recvS j) : SemLoc sig)) (Finset.Ico 1 16 : Finset ℕ) := by
    intro i hi j hj h
    have hi := Finset.mem_Ico.mp (Finset.mem_coe.mp hi)
    have hj := Finset.mem_Ico.mp (Finset.mem_coe.mp hj)
    injection h with h
    have := congrArg Fin.val h
    have := recvS_val i
    have := recvS_val j
    omega
  have hsub : (Finset.Ico 1 16).image (fun j => (SemLoc.dma (recvS j) : SemLoc sig)) ⊆ Finset.univ.erase (SemLoc.reg barS) := by
    intro sm hsm
    obtain ⟨j, -, rfl⟩ := Finset.mem_image.mp hsm
    exact Finset.mem_erase.mpr ⟨(by intro h; cases h), Finset.mem_univ _⟩
  refine (bigSep_subset hsub).trans ?_
  rw [bigSep_image_of_injOn hinj]
  exact Entails.of_eq (bigSep_congr fun j hj => by
    have hj := Finset.mem_Ico.mp hj
    rw [launch_at c _ Nb (owed_recv c j hj.1 hj.2)])

end Cert.KernelIdeal.A2A
-- ==== Proof.Ends.lean ====
/-
The two ends of a device's run. What the launch deals a device, with its buffers whole, is what its run
starts from; what the run ends with is the buffers whole again, and every semaphore's cell closed at zero.
-/
module

public import proofs.«01_k».proof.Proof.Cells

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : XArr F} {W : WArr F} {K : Dev nD × Fin 39 → ℕ} {c : Dev nD}

/-! ## Rearrangements -/

/-- Both families over the same numbers, joined number by number. -/
theorem bigSep_two {S : Finset ℕ} {Φ Ψ Θ : ℕ → sProp (MT nD τ sig Unit (Elt F) ℕ UU ℕ)} (h : ∀ i ∈ S, iprop(Φ i ∗ Ψ i) ⊢ Θ i) :
    iprop(bigSep S Φ ∗ bigSep S Ψ) ⊢ bigSep S Θ := by
  have hm : bigSep S (fun i => iprop(Φ i ∗ Ψ i)) ⊢ bigSep S Θ := bigSep_mono h
  rw [← bigSep_sep']; exact hm
/-- A family of pairs, taken apart. -/
theorem bigSep_apart {S : Finset ℕ} {Φ Ψ Θ : ℕ → sProp (MT nD τ sig Unit (Elt F) ℕ UU ℕ)} (h : ∀ i ∈ S, Θ i ⊢ iprop(Φ i ∗ Ψ i)) :
    bigSep S Θ ⊢ iprop(bigSep S Φ ∗ bigSep S Ψ) := by
  have hm : bigSep S Θ ⊢ bigSep S (fun i => iprop(Φ i ∗ Ψ i)) := bigSep_mono h
  rw [bigSep_sep'] at hm; exact hm
/-- The numbers from 1 to 15 in the other order. -/
theorem bigSep_reflect (Φ : ℕ → sProp 𝕄) : bigSep (Finset.Ico 1 16) Φ = bigSep (Finset.Ico 1 16) (fun j => Φ (16 - j)) := by
  have hinj : Set.InjOn (fun j => 16 - j) (Finset.Ico 1 16 : Finset ℕ) := by
    intro i hi j hj h
    have hi := Finset.mem_Ico.mp (Finset.mem_coe.mp hi)
    have hj := Finset.mem_Ico.mp (Finset.mem_coe.mp hj)
    dsimp only at h; omega
  rw [← bigSep_image_of_injOn hinj Φ, show (Finset.Ico 1 16).image (fun j => 16 - j) = Finset.Ico 1 16 by decide]

/-- The first of sixteen, and the fifteen others. -/
theorem bigSep_first (Φ : ℕ → sProp 𝕄) : bigSep (Finset.Ico 0 16) Φ = iprop(Φ 0 ∗ bigSep (Finset.Ico 1 16) Φ) :=
  bigSep_Ico_succ_bot (show 0 < 16 by decide) Φ
theorem bigSep_four (Φ : ℕ → sProp 𝕄) : bigSep (Finset.Ico 0 4) Φ = iprop(Φ 0 ∗ Φ 1 ∗ Φ 2 ∗ Φ 3 ∗ emp) := by
  rw [bigSep_Ico_succ_bot (show 0 < 4 by decide), bigSep_Ico_succ_bot (show 1 < 4 by decide), bigSep_Ico_succ_bot (show 2 < 4 by decide),
    bigSep_Ico_succ_bot (show 3 < 4 by decide), Finset.Ico_self, bigSep_empty]
  rfl
theorem bigSep_pair (Φ : ℕ → sProp 𝕄) : bigSep (Finset.Ico 0 2) Φ = iprop(Φ 0 ∗ Φ 1 ∗ emp) := by
  rw [bigSep_Ico_succ_bot (show 0 < 2 by decide), bigSep_Ico_succ_bot (show 1 < 2 by decide), Finset.Ico_self, bigSep_empty]
  rfl

/-! ## The start -/

/-- The position of the cell of semaphore `n` at round `r`. -/
def posAt (c : Dev nD) (r : Fin 39 → ℕ) (n : Fin 39) : sProp 𝕄 := atPos ER (kcell (c, n)) (r n) ∅ 0

theorem posAt_dma (c : Dev nD) (r : Fin 39 → ℕ) (q : DmaSem sig) (hq : q.val ≠ 0) :
    posAt (F := F) c r q = atPos ER (dCell c q) (r q) ∅ 0 := by
  unfold posAt; rw [kcell_dma c q hq]

/-- The copies' rights and sources are what the copies still need. -/
theorem todos (C : Copies X W c) (n : ℕ) (hn : C.m ≤ n) :
    iprop(bigSep (Finset.Ico 0 C.m) (fun k => dutyTok ER (dCell c (C.q k)) (k / C.n) 0) ∗ bigSep (Finset.Ico 0 C.m) C.back)
      ⊢ bigSep (Finset.Ico 0 n) C.todo := by
  have h1 : bigSep (Finset.Ico C.m n) C.todo = (iprop(emp) : sProp 𝕄) := by
    rw [bigSep_congr (s := Finset.Ico C.m n) (Ψ := fun _ => iprop(emp)) fun k hk => by
      unfold Copies.todo; rw [if_neg (Nat.not_lt.mpr (Finset.mem_Ico.mp hk).1)]]
    exact bigSep_emp_const _
  rw [bigSep_cut 0 C.m n (Nat.zero_le _) hn, h1]
  have h2 := bigSep_two (S := Finset.Ico 0 C.m) (Φ := fun k => dutyTok ER (dCell c (C.q k)) (k / C.n) 0) (Ψ := C.back) (Θ := C.todo) fun k hk => by
    unfold Copies.todo Copies.back; rw [if_pos (Finset.mem_Ico.mp hk).2]
  iintro H
  isplitl [H]
  · iapply h2; iexact H
  iempintro

/-- A slot waits for copy `k`, its semaphore and its round named. -/
theorem free_intro (C : Copies X W c) (k : ℕ) {q : DmaSem sig} {r : ℕ} (hq : C.q k = q) (hr : k / C.n = r) :
    iprop(any c (C.dst k) ∗ atPos ER (dCell c q) r ∅ 0 ∗ reached ER (dCell c q) r) ⊢ C.free k := by
  subst hq hr; unfold Copies.free; exact BI.Entails.refl _
/-- The other way, without the mark. -/
theorem free_elim (C : Copies X W c) (k : ℕ) {q : DmaSem sig} {r : ℕ} (hq : C.q k = q) (hr : k / C.n = r) :
    C.free k ⊢ iprop(any c (C.dst k) ∗ atPos ER (dCell c q) r ∅ 0) := by
  subst hq hr; unfold Copies.free
  iintro ⟨H, Ha, -⟩
  isplitl [H]; · iexact H
  iexact Ha

/-- Three families over the same numbers, joined number by number. -/
theorem bigSep_three {S : Finset ℕ} {Φ Ψ Ξ Θ : ℕ → sProp (MT nD τ sig Unit (Elt F) ℕ UU ℕ)} (h : ∀ i ∈ S, iprop(Φ i ∗ Ψ i ∗ Ξ i) ⊢ Θ i) :
    iprop(bigSep S Φ ∗ bigSep S Ψ ∗ bigSep S Ξ) ⊢ bigSep S Θ := by
  have hm : bigSep S (fun i => iprop(Φ i ∗ Ψ i ∗ Ξ i)) ⊢ bigSep S Θ := bigSep_mono h
  rw [bigSep_sep', bigSep_sep'] at hm; exact hm

/-- The received blocks' slots and the barrier's rights are what signalling needs. -/
theorem sigTodos (c : Dev nD) :
    iprop(bigSep (Finset.Ico 1 16) (fun j => any (F := F) c (rvV j))
        ∗ bigSep (Finset.Ico 1 16) (fun j => dutyTok ER (barCell (peer c j)) 0 (16 - j)))
      ⊢ bigSep (Finset.Ico 1 16) (sigTodo (F := F) c) := by
  rw [bigSep_reflect (fun j => any (F := F) c (rvV j))]
  exact bigSep_two fun j _ => BI.Entails.refl _

/-- What a device holds at the start besides what it knows, its buffers whole. -/
def dealt (X : XArr F) (W : WArr F) (c : Dev nD) : sProp 𝕄 :=
  iprop(bigSep Finset.univ (posAt c fun _ => 0) ∗ payToks c
    ∗ (cred (tallyAt (barCell c) () 15) ∗ bigSep (Finset.Ico 1 16) (fun j => cred (tallyAt (dCell c (recvS j)) () Nb)))
    ∗ (((c : Thread nD τ).loc main_arg0) ↦{fullShare} X c) ∗ (((c : Thread nD τ).loc main_arg1) ↦{fullShare} W c))
/-- The scratch buffers, whole. -/
def scratch (c : Dev nD) : sProp 𝕄 :=
  iprop(whole (F := F) c cc0_scratch0 ∗ whole (F := F) c cc0_scratch1 ∗ whole (F := F) c cc0_scratch2 ∗ whole (F := F) c cc0_scratch3)
/-- What a run does not touch: the receiving slot and the cells of block zero. -/
def unused (c : Dev nD) : sProp 𝕄 :=
  iprop(any (F := F) c (rvV 0) ∗ posAt c (fun _ => 0) 1 ∗ posAt c (fun _ => 0) 17)

/-- The start. -/
theorem start_body (X : XArr F) (W : WArr F) (K : Dev nD × Fin 39 → ℕ) (c : Dev nD) :
    iprop(known X W K ∗ dealt X W c ∗ scratch c ∗ owing c (O₀ c) ∗ whole (F := F) c cc0_stg0_0)
      ⊢ iprop(bodyStart X W c ∗ unused (F := F) c) := by
  unfold dealt scratch payToks
  rw [cells_split (posAt c fun _ => 0), x_blocks X W c, w_blocks X W c]
  have hsd : bigSep (Finset.Ico 1 16) (fun j => posAt (F := F) c (fun _ => 0) (sendS j)) = bigSep (Finset.Ico 1 16) (sendPos c) :=
    bigSep_congr fun j _ => posAt_dma c _ _ (by rw [sendS_val]; omega)
  have hrv : bigSep (Finset.Ico 1 16) (fun j => posAt (F := F) c (fun _ => 0) (recvS j))
      = bigSep (Finset.Ico 1 16) (fun j => atPos ER (dCell c (recvS j)) 0 ∅ 0) :=
    bigSep_congr fun j _ => posAt_dma c _ _ (by rw [recvS_val]; omega)
  have hst (j : ℕ) : posAt (F := F) c (fun _ => 0) (stS j) = atPos ER (dCell c (stS j)) 0 ∅ 0 := posAt_dma c _ _ (by rw [stS_val]; omega)
  have hw (j : ℕ) : posAt (F := F) c (fun _ => 0) (wS j) = atPos ER (dCell c (wS j)) 0 ∅ 0 := posAt_dma c _ _ (by rw [wS_val]; omega)
  have hb : posAt (F := F) c (fun _ => 0) 0 = atPos ER (barCell c) 0 ∅ 0 := rfl
  rw [hsd, hrv, bigSep_four, bigSep_pair, hst, hst, hst, hst, hw, hw, hb]
  have hlhs := bigSep_two (S := Finset.Ico 1 16) (Φ := fun j => cred (tallyAt (dCell c (recvS j)) () Nb))
    (Ψ := fun j => atPos ER (dCell c (recvS j)) 0 ∅ 0) (Θ := lhsTodo X c) fun j hj => by
      unfold lhsTodo; rw [if_neg (by have := Finset.mem_Ico.mp hj; omega)]
  have hsend := bigSep_three (S := Finset.Ico 1 16) (Φ := fun j => any (F := F) c (sdV j)) (Ψ := fun j => dutyTok ER (dCell c (sendS j)) 0 0)
    (Ξ := fun j => dutyTok ER (dCell (peer c j) (recvS j)) 0 0) (Θ := sendTok c) fun j _ => BI.Entails.refl _
  iintro ⟨#HK, ⟨⟨Hb, ⟨H1, H17⟩, Hsp, Hrp, ⟨Ht0, Ht1, Ht2, Ht3, -⟩, ⟨Hw0, Hw1, -⟩⟩, ⟨Tb, Ts, Tr, Tst, Tw⟩, ⟨Cb, Cr⟩, Hx, Hw⟩,
    ⟨S0, S1, S2, S3⟩, Ho, ⟨%f, Hout⟩⟩
  ihave S0 := (st_slots c) $$ S0
  ihave S1 := (sd_slots c) $$ S1
  ihave S2 := (rv_slots c) $$ S2
  ihave S3 := (wb_slots c) $$ S3
  ihave S0 := (Entails.of_eq (bigSep_four _)) $$ S0
  ihave S1 := (Entails.of_eq (bigSep_first _)) $$ S1
  ihave S2 := (Entails.of_eq (bigSep_first _)) $$ S2
  ihave S3 := (Entails.of_eq (bigSep_pair _)) $$ S3
  icases S0 with ⟨A0, A1, A2, A3, -⟩
  icases S1 with ⟨D0, D⟩
  icases S2 with ⟨R0, R⟩
  icases S3 with ⟨B0, B1, -⟩
  ihave #G0 := (dma_reached X W K c (stS 0) (by rw [stS_val]; omega)) $$ HK
  ihave #G1 := (dma_reached X W K c (stS 1) (by rw [stS_val]; omega)) $$ HK
  ihave #G2 := (dma_reached X W K c (stS 2) (by rw [stS_val]; omega)) $$ HK
  ihave #G3 := (dma_reached X W K c (stS 3) (by rw [stS_val]; omega)) $$ HK
  ihave #V0 := (dma_reached X W K c (wS 0) (by rw [wS_val]; omega)) $$ HK
  ihave #V1 := (dma_reached X W K c (wS 1) (by rw [wS_val]; omega)) $$ HK
  unfold bodyStart unused
  isplitr [R0 H1 H17]
  · isplitl [Ho]; · iexact Ho
    isplitl [Cb Hb]
    · isplitl [Cb]; · iexact Cb
      iexact Hb
    isplitl [R Tb]
    · iapply (sigTodos c)
      isplitl [R] <;> iassumption
    isplitl [D0 D Ts Tr]
    · isplitl [D0]; · iexact D0
      iapply hsend
      isplitl [D]; · iexact D
      isplitl [Ts]; · iexact Ts
      iexact Tr
    isplitl [Hsp]; · iexact Hsp
    isplitl [Cr Hrp]
    · iapply hlhs
      isplitl [Cr]; · iexact Cr
      iexact Hrp
    isplitl [A0 A1 A2 A3 Ht0 Ht1 Ht2 Ht3 Tst Hx]
    · isplitl [A0 Ht0]
      · iapply (free_intro (xCopies X W c) 0 (q := stS 0) (r := 0) rfl (show 0 / 4 = 0 by decide))
        isplitl [A0]; · iexact A0
        isplitl [Ht0]; · iexact Ht0
        iexact G0
      isplitl [A1 Ht1]
      · iapply (free_intro (xCopies X W c) 1 (q := stS 1) (r := 0) rfl (show 1 / 4 = 0 by decide))
        isplitl [A1]; · iexact A1
        isplitl [Ht1]; · iexact Ht1
        iexact G1
      isplitl [A2 Ht2]
      · iapply (free_intro (xCopies X W c) 2 (q := stS 2) (r := 0) rfl (show 2 / 4 = 0 by decide))
        isplitl [A2]; · iexact A2
        isplitl [Ht2]; · iexact Ht2
        iexact G2
      isplitl [A3 Ht3]
      · iapply (free_intro (xCopies X W c) 3 (q := stS 3) (r := 0) rfl (show 3 / 4 = 0 by decide))
        isplitl [A3]; · iexact A3
        isplitl [Ht3]; · iexact Ht3
        iexact G3
      iapply (todos (xCopies X W c) 19 (show 16 ≤ 19 by decide))
      isplitl [Tst]; · iexact Tst
      iexact Hx
    isplitl [B0 B1 Hw0 Hw1 Tw Hw]
    · isplitl [B0 Hw0]
      · iapply (free_intro (wCopies X W c) 0 (q := wS 0) (r := 0) rfl (show 0 / 2 = 0 by decide))
        isplitl [B0]; · iexact B0
        isplitl [Hw0]; · iexact Hw0
        iexact V0
      isplitl [B1 Hw1]
      · iapply (free_intro (wCopies X W c) 1 (q := wS 1) (r := 0) rfl (show 1 / 2 = 0 by decide))
        isplitl [B1]; · iexact B1
        isplitl [Hw1]; · iexact Hw1
        iexact V1
      iapply (todos (wCopies X W c) 33 (show 32 ≤ 33 by decide))
      isplitl [Tw]; · iexact Tw
      iexact Hw
    iapply (out_split X W c f); iexact Hout
  isplitl [R0]; · iexact R0
  isplitl [H1]; · iexact H1
  iexact H17

/-! ## The end -/

/-- The rounds a cell has at the end. -/
def fin (n : Fin 39) : ℕ := if n = 0 then 1 else nRounds n.val

/-- At the end every buffer is whole again and every cell past its last round. -/
theorem end_body (X : XArr F) (W : WArr F) (c : Dev nD) :
    iprop(bodyEnd X W c ∗ unused (F := F) c)
      ⊢ iprop((bigSep Finset.univ (posAt c fin) ∗ scratch c)
        ∗ ((((c : Thread nD τ).loc main_arg0) ↦{fullShare} X c) ∗ (((c : Thread nD τ).loc main_arg1) ↦{fullShare} W c))
        ∗ owing c 0 ∗ (((c : Thread nD τ).loc cc0_stg0_0) ↦{fullShare} outV X W c)) := by
  unfold scratch
  rw [cells_split (posAt c fin), x_blocks X W c, w_blocks X W c]
  have hpos (q : DmaSem sig) (hq : q.val ≠ 0) : posAt (F := F) c fin q = atPos ER (dCell c q) (nRounds q.val) ∅ 0 := by
    rw [posAt_dma c _ q hq]; unfold fin; rw [if_neg fun h => hq (congrArg Fin.val h)]
  have hsd : bigSep (Finset.Ico 1 16) (fun j => posAt (F := F) c fin (sendS j)) = bigSep (Finset.Ico 1 16) (fun j => atPos ER (dCell c (sendS j)) 1 ∅ 0) :=
    bigSep_congr fun j hj => by
      have := sendS_val j
      have hj := Finset.mem_Ico.mp hj
      rw [hpos _ (by omega), show nRounds (sendS j).val = 1 by unfold nRounds; rw [if_neg (by omega), if_pos (by omega)]]
  have hrv : bigSep (Finset.Ico 1 16) (fun j => posAt (F := F) c fin (recvS j)) = bigSep (Finset.Ico 1 16) (fun j => atPos ER (dCell c (recvS j)) 1 ∅ 0) :=
    bigSep_congr fun j hj => by
      have := recvS_val j
      have hj := Finset.mem_Ico.mp hj
      rw [hpos _ (by omega), show nRounds (recvS j).val = 1 by unfold nRounds; rw [if_neg (by omega), if_pos (by omega)]]
  have hst (j : ℕ) : posAt (F := F) c fin (stS j) = atPos ER (dCell c (stS j)) 4 ∅ 0 := by
    have := stS_val j
    rw [hpos _ (by omega), show nRounds (stS j).val = 4 by unfold nRounds; rw [if_neg (by omega), if_neg (by omega), if_pos (by omega)]]
  have hw (j : ℕ) : posAt (F := F) c fin (wS j) = atPos ER (dCell c (wS j)) 16 ∅ 0 := by
    have := wS_val j
    rw [hpos _ (by omega), show nRounds (wS j).val = 16 by unfold nRounds; rw [if_neg (by omega), if_neg (by omega), if_neg (by omega)]]
  have h0 : posAt (F := F) c fin 0 = atPos ER (barCell c) 1 ∅ 0 := rfl
  have h1 : posAt (F := F) c fin 1 = posAt c (fun _ => 0) 1 := rfl
  have h17 : posAt (F := F) c fin 17 = posAt c (fun _ => 0) 17 := rfl
  rw [hsd, hrv, bigSep_four, bigSep_pair, hst, hst, hst, hst, hw, hw, h0, h1, h17]
  have hsend := bigSep_apart (S := Finset.Ico 1 16) (Φ := fun j => any (F := F) c (sdV j)) (Ψ := fun j => atPos ER (dCell c (sendS j)) 1 ∅ 0)
    (Θ := sendDone c) fun j _ => BI.Entails.refl _
  have hlhs := bigSep_apart (S := Finset.Ico 1 16) (Φ := fun j => any (F := F) c (rvV j)) (Ψ := fun j => atPos ER (dCell c (recvS j)) 1 ∅ 0)
    (Θ := lhsDone X c) fun j hj => by
      have hs : iprop(reads c (rvV j) (rBlk X c j) ∗ atPos ER (dCell c (recvS j)) 1 ∅ 0)
          ⊢ iprop(any (F := F) c (rvV j) ∗ atPos ER (dCell c (recvS j)) 1 ∅ 0) := by
        iintro ⟨H, Ha⟩
        isplitl [H]; · iapply (reads_any c (rvV j) (rBlk X c j)); iexact H
        iexact Ha
      unfold lhsDone; rw [if_neg (by have := Finset.mem_Ico.mp hj; omega)]; exact hs
  have hown : lhsDone X c 0 ⊢ any (F := F) c (sdV 0) := by
    unfold lhsDone; rw [if_pos rfl]; exact reads_any c (sdV 0) (rBlk X c 0)
  unfold bodyEnd unused
  rw [bigSep_first (lhsDone X c)]
  iintro ⟨⟨Ho, Hb, Hs, ⟨Hl0, Hl⟩, ⟨X0, X1, X2, X3, Hx⟩, ⟨W0, W1, Hw⟩, Hout⟩, R0, H1, H17⟩
  ihave Hs := hsend $$ Hs
  icases Hs with ⟨D, Hsp⟩
  ihave Hl := hlhs $$ Hl
  icases Hl with ⟨R, Hrp⟩
  ihave D0 := hown $$ Hl0
  ihave X0 := (free_elim (xCopies X W c) 16 (q := stS 0) (r := 4) rfl (show 16 / 4 = 4 by decide)) $$ X0
  ihave X1 := (free_elim (xCopies X W c) 17 (q := stS 1) (r := 4) rfl (show 17 / 4 = 4 by decide)) $$ X1
  ihave X2 := (free_elim (xCopies X W c) 18 (q := stS 2) (r := 4) rfl (show 18 / 4 = 4 by decide)) $$ X2
  ihave X3 := (free_elim (xCopies X W c) 19 (q := stS 3) (r := 4) rfl (show 19 / 4 = 4 by decide)) $$ X3
  ihave W0 := (free_elim (wCopies X W c) 32 (q := wS 0) (r := 16) rfl (show 32 / 2 = 16 by decide)) $$ W0
  ihave W1 := (free_elim (wCopies X W c) 33 (q := wS 1) (r := 16) rfl (show 33 / 2 = 16 by decide)) $$ W1
  icases X0 with ⟨A0, P0⟩
  icases X1 with ⟨A1, P1⟩
  icases X2 with ⟨A2, P2⟩
  icases X3 with ⟨A3, P3⟩
  icases W0 with ⟨B0, Q0⟩
  icases W1 with ⟨B1, Q1⟩
  isplitl [Hb H1 H17 Hsp Hrp P0 P1 P2 P3 Q0 Q1 A0 A1 A2 A3 D0 D R0 R B0 B1]
  · isplitl [Hb H1 H17 Hsp Hrp P0 P1 P2 P3 Q0 Q1]
    · isplitl [Hb]; · iexact Hb
      isplitl [H1 H17]
      · isplitl [H1]; · iexact H1
        iexact H17
      isplitl [Hsp]; · iexact Hsp
      isplitl [Hrp]; · iexact Hrp
      isplitl [P0 P1 P2 P3]
      · isplitl [P0]; · iexact P0
        isplitl [P1]; · iexact P1
        isplitl [P2]; · iexact P2
        isplitl [P3]; · iexact P3
        iempintro
      isplitl [Q0]; · iexact Q0
      isplitl [Q1]; · iexact Q1
      iempintro
    isplitl [A0 A1 A2 A3]
    · iapply (slots_st c)
      iapply (Entails.of_eq (bigSep_four (fun i => any c (stV i))).symm)
      isplitl [A0]; · iexact A0
      isplitl [A1]; · iexact A1
      isplitl [A2]; · iexact A2
      isplitl [A3]; · iexact A3
      iempintro
    isplitl [D0 D]
    · iapply (slots_sd c)
      iapply (Entails.of_eq (bigSep_first (fun i => any c (sdV i))).symm)
      isplitl [D0]; · iexact D0
      iexact D
    isplitl [R0 R]
    · iapply (slots_rv c)
      iapply (Entails.of_eq (bigSep_first (fun i => any c (rvV i))).symm)
      isplitl [R0]; · iexact R0
      iexact R
    iapply (slots_wb c)
    iapply (Entails.of_eq (bigSep_pair (fun i => any c (wbV i))).symm)
    isplitl [B0]; · iexact B0
    isplitl [B1]; · iexact B1
    iempintro
  isplitl [Hx Hw]
  · isplitl [Hx]; · iexact Hx
    iexact Hw
  isplitl [Ho]; · iexact Ho
  iapply (out_join X W c); iexact Hout

/-- Past its last round a cell closes, its semaphore at zero. -/
theorem close_one (X : XArr F) (W : WArr F) (K : Dev nD × Fin 39 → ℕ) (c : Dev nD) (n : Fin 39) :
    iprop(known X W K ∗ posAt c fin n) ⊢ iprop(|={Set.univ}=> semVal (kcell (c, n)) 0) := by
  have hd : ∀ r, fin n ≤ r → (rd X W).duties (kcell (c, n)) r = ∅ := by
    intro r hr
    unfold fin at hr
    by_cases h : n = 0
    · subst h; exact duties_bar_later X W c r hr
    · rw [if_neg h] at hr
      rw [kcell_dma c n fun h' => h (Fin.ext h')]
      exact duties_dma_later X W c n r hr
  have hc := Rounds.cell_close ER (rd X W) (κ := K (c, n)) (Set.mem_univ _) (fun h => h) hd
  unfold posAt
  iintro ⟨#HK, H⟩
  iapply hc
  isplitr; · iapply (known_inv X W K (c, n)); iexact HK
  iexact H

/-- All cells of a device close. -/
theorem close_all (X : XArr F) (W : WArr F) (K : Dev nD × Fin 39 → ℕ) (c : Dev nD) :
    iprop(known X W K ∗ bigSep Finset.univ (posAt c fin))
      ⊢ iprop(|={Set.univ}=> bigSep Finset.univ (fun n : Fin 39 => semVal (kcell (c, n)) 0)) := by
  have h1 : iprop(known X W K ∗ bigSep Finset.univ (posAt c fin))
      ⊢ bigSep Finset.univ (fun n : Fin 39 => iprop(|={Set.univ}=> semVal (kcell (c, n)) 0)) := by
    refine BIBase.Entails.trans (sep_mono_left (BI.bigSep_of_persistent (Finset.univ : Finset (Fin 39)) (known X W K))) ?_
    rw [← bigSep_sep']
    exact bigSep_mono fun n _ => close_one X W K c n
  exact h1.trans (bigSep_fupd _ _)

end Cert.KernelIdeal.A2A
-- ==== Proof.Launch.lean ====
/-
The launch: the cells' invariants made for all devices at once, what each device starts from, the body's
obligation, and the run of the whole program.
-/
module

public import proofs.«01_k».proof.Proof.Ends
public import proofs.«01_k».proof.Proof.Gen.KernelIdeal.Frame
public import Idealize.ShloMosaic.Lib.Pipeline.Launch
public import Idealize.ShloMosaic.Lib.Pipeline.CollectiveSegs
public import Idealize.ShloMosaic.Lib.Pipeline.Kit

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells at launch -/

/-- The kernel's own semaphores: all the copies' but the pipeline's. -/
def osem (k : Fin 38) : SemLoc sig := .dma k.succ

theorem ownSemFacts : Pipeline.OwnSemFacts cfg0.spec osem := by decide

theorem kcell_injective : Function.Injective kcell := by
  rintro ⟨c, n⟩ ⟨c', n'⟩ h
  have h1 : c = c' := congrArg (fun g : GSem nD τ sig => g.1.1) h
  subst h1
  have h2 : csem n = csem n' := congrArg Prod.snd h
  unfold csem at h2
  by_cases hn : n = 0 <;> by_cases hn' : n' = 0
  · rw [hn, hn']
  · rw [if_pos hn, if_neg hn'] at h2; cases h2
  · rw [if_neg hn, if_pos hn'] at h2; cases h2
  · rw [if_neg hn, if_neg hn'] at h2
    have : n = n' := by injection h2
    rw [this]

def cellSet : Finset (GSem nD τ sig) := Finset.univ.map ⟨kcell, kcell_injective⟩
def tokSet : Finset (GSem nD τ sig × ℕ × ℕ) := Finset.univ.map ⟨tokOf, tokOf_injective⟩

/-- The ghost state minted at launch. -/
def u₀ : UU := (initOf (Pipeline.cells cfgs cellOf_inj) (Pipeline.launchToks cfgs cellOf_inj), initOf cellSet tokSet)

/-- The semaphores a launch hands over are the cells', one by one. -/
theorem sems_eq (c : Dev nD) :
    iprop(Pipeline.ownSems0 (Ix := Unit) (Name := ℕ) (U := UU) (Lvl := ℕ) (Val := Elt F) (τ := τ) osem c ∗ unscopedSems0 c)
      = (bigSep Finset.univ fun n : Fin 39 => semVal (kcell (c, n)) 0 : sProp 𝕄) := by
  have h1 : (unscopedSems0 c : sProp 𝕄) = semVal (kcell (c, 0)) 0 := by
    unfold unscopedSems0; rw [bigSep_eq_bigSepL_of_eq [SemLoc.reg barS] (by decide) (by decide)]; rfl
  have h2 : (Pipeline.ownSems0 (Ix := Unit) (Name := ℕ) (U := UU) (Lvl := ℕ) (Val := Elt F) (τ := τ) osem c : sProp 𝕄)
      = bigSep (Finset.univ.erase (0 : Fin 39)) (fun n : Fin 39 => semVal (kcell (c, n)) 0) := by
    rw [show Finset.univ.erase (0 : Fin 39) = Finset.univ.map ⟨Fin.succ, Fin.succ_injective 38⟩ by decide +kernel, bigSep_map]
    unfold Pipeline.ownSems0
    exact bigSep_congr fun k _ => by
      show semVal ((c : Thread nD τ), osem k) 0 = semVal (kcell (c, k.succ)) 0
      rw [kcell_dma c k.succ (Nat.succ_ne_zero _)]; rfl
  rw [h1, h2, bigSep_univ_at _ (0 : Fin 39)]
  exact eq_of_both BI.sep_comm BI.sep_comm

section Glob
variable (X : XArr F) (W : WArr F)

/-- What the minted state deals a device: its cells, its positions, and the rights to the units it pays. -/
def G (c : Dev nD) : sProp 𝕄 :=
  iprop((bigSep Finset.univ fun n : Fin 39 => roundState ER (rd X W) (kcell (c, n)) 0)
    ∗ (bigSep Finset.univ fun n : Fin 39 => reached ER (kcell (c, n)) 0)
    ∗ (bigSep Finset.univ fun n : Fin 39 => atPos ER (kcell (c, n)) 0 ∅ 0) ∗ payToks c)

/-- The invariants and marks of all cells. -/
def marks (K : Dev nD × Fin 39 → ℕ) : sProp 𝕄 :=
  iprop((bigSep Finset.univ fun ck => cellInv ER (rd X W) (K ck) (kcell ck))
    ∗ (bigSep Finset.univ fun ck => reached ER (kcell ck) 0))
instance marks_persistent (K : Dev nD × Fin 39 → ℕ) : BI.Persistent (marks X W K) := by unfold marks; infer_instance

/-- What the devices make of it together. -/
def G' (c : Dev nD) : sProp 𝕄 :=
  iprop((∃ K, marks X W K) ∗ bigSep Finset.univ (posAt c fun _ => 0) ∗ payToks c)

theorem fund_cells : BI.own (ER (initOf cellSet tokSet)) ⊢ (|==> bigSep Finset.univ (G X W) : sProp 𝕄) := by
  have hX (Φ : GSem nD τ sig → sProp 𝕄) :
      bigSep cellSet Φ = bigSep Finset.univ fun c : Dev nD => bigSep Finset.univ fun n : Fin 39 => Φ (kcell (c, n)) := by
    unfold cellSet; rw [bigSep_map, bigSep_univ_prod]; rfl
  have hT : bigSep tokSet (fun x => (dutyTok ER x.1 x.2.1 x.2.2 : sProp 𝕄)) = bigSep Finset.univ fun c : Dev nD => payToks c := by
    unfold tokSet; rw [bigSep_map, bigSep_univ_prod]
    exact bigSep_congr fun c _ => payToks_eq c
  iintro H
  imod (Rounds.fund ER (rd X W) cellSet tokSet) $$ H with ⟨Hst, Hr, Hat, Htok⟩
  imodintro
  ihave Hst := (Entails.of_eq (hX fun g => roundState ER (rd X W) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold G; simp only [bigSep_sep']
  isplitl [Hst]; · iexact Hst
  isplitl [Hr]; · iexact Hr
  isplitl [Hat] <;> iassumption

/-- A device's cells become invariants. -/
theorem device_alloc (c : Dev nD) :
    iprop(Pipeline.ownSems0 (Ix := Unit) (Name := ℕ) (U := UU) (Lvl := ℕ) (Val := Elt F) (τ := τ) osem c ∗ unscopedSems0 c ∗ G X W c)
      ⊢ iprop(|={Set.univ}=> ((bigSep Finset.univ fun n : Fin 39 => iprop(∃ κ : ℕ, cellInv ER (rd X W) κ (kcell (c, n))))
          ∗ (bigSep Finset.univ fun n : Fin 39 => reached ER (kcell (c, n)) 0)
          ∗ bigSep Finset.univ (posAt c fun _ => 0) ∗ payToks c)) := by
  have hinv : iprop((bigSep Finset.univ fun n : Fin 39 => semVal (kcell (c, n)) 0)
        ∗ bigSep Finset.univ fun n : Fin 39 => roundState ER (rd X W) (kcell (c, n)) 0)
      ⊢ iprop(|={Set.univ}=> bigSep Finset.univ fun n : Fin 39 => iprop(∃ κ : ℕ, cellInv ER (rd X W) κ (kcell (c, n)))) := by
    rw [← bigSep_sep']
    exact (bigSep_mono fun n _ => (Rounds.body_intro ER (rd X W) (kcell (c, n))).trans inv_alloc).trans (bigSep_fupd _ _)
  unfold G
  iintro ⟨Hos, Hus, Hst, Hr, Hat, Htok⟩
  ihave Hv := (Entails.of_eq (sems_eq c)) $$ [Hos Hus]
  · isplitl [Hos] <;> iassumption
  imod hinv $$ [Hv Hst] with Hinv
  · isplitl [Hv] <;> iassumption
  imodintro
  isplitl [Hinv]; · iexact Hinv
  isplitl [Hr]; · iexact Hr
  isplitl [Hat]; · iexact Hat
  iexact Htok

/-- All the devices' invariants are known to each. -/
theorem share_out :
    (bigSep Finset.univ fun c : Dev nD => iprop((bigSep Finset.univ fun n : Fin 39 => iprop(∃ κ : ℕ, cellInv ER (rd X W) κ (kcell (c, n))))
          ∗ (bigSep Finset.univ fun n : Fin 39 => reached ER (kcell (c, n)) 0)
          ∗ bigSep Finset.univ (posAt c fun _ => 0) ∗ payToks c) : sProp 𝕄)
      ⊢ bigSep Finset.univ (G' X W) := by
  have hG (K : Dev nD × Fin 39 → ℕ) : iprop(marks X W K ∗ bigSep Finset.univ fun c : Dev nD => iprop(bigSep Finset.univ (posAt c fun _ => 0) ∗ payToks c))
      ⊢ bigSep Finset.univ (G' X W) := by
    refine BIBase.Entails.trans (sep_mono_left (BI.bigSep_of_persistent (Finset.univ : Finset (Dev nD)) (marks X W K))) ?_
    rw [← bigSep_sep']
    have h1 (c : Dev nD) : iprop(marks X W K ∗ bigSep Finset.univ (posAt c fun _ => 0) ∗ payToks c) ⊢ G' X W c := by
      unfold G'
      iintro ⟨H, H2⟩
      isplitl [H]; · iexists K; iexact H
      iexact H2
    exact bigSep_mono fun c _ => h1 c
  rw [bigSep_sep', bigSep_sep', ← bigSep_univ_prod (fun ck : Dev nD × Fin 39 => iprop(∃ κ : ℕ, cellInv ER (rd X W) κ (kcell ck))),
    ← bigSep_univ_prod (fun ck : Dev nD × Fin 39 => (reached ER (kcell ck) 0 : sProp 𝕄))]
  iintro ⟨HI, #HR, Hrest⟩
  ihave HK := (BI.bigSep_exists_pi Finset.univ (fun (ck : Dev nD × Fin 39) (κ : ℕ) => (cellInv ER (rd X W) κ (kcell ck) : sProp 𝕄))) $$ HI
  icases HK with ⟨%K, #HI⟩
  iapply (hG K)
  isplitr
  · unfold marks; isplitl; · iexact HI
    iexact HR
  iexact Hrest

theorem glob : (bigSep Finset.univ fun c => iprop(Pipeline.ownSems0 (Ix := Unit) (Name := ℕ) (U := UU) (Lvl := ℕ) (Val := Elt F) (τ := τ) osem c
      ∗ unscopedSems0 c ∗ G X W c) : sProp 𝕄)
    ⊢ iprop(|={Set.univ}=> bigSep Finset.univ (G' X W)) :=
  ((bigSep_mono fun c _ => device_alloc X W c).trans (bigSep_fupd _ _)).trans (BI.fupd_mono (share_out X W))

end Glob

/-! ## The proof data -/

variable (m : (ℓ : Loc nD τ sig) → Buf (Elt F) ℓ) (ρ : Dev nD → PrngReg)

/-- The shards of `x` and the matrices `w` at launch. -/
abbrev xs : XArr F := fun c => m ((c : Thread nD τ).loc main_arg0)
abbrev ws : WArr F := fun c => m ((c : Thread nD τ).loc main_arg1)

/-- The two arguments of device `c`, unchanged. -/
def args (c : Dev nD) : sProp 𝕄 :=
  iprop((((c : Thread nD τ).loc main_arg0) ↦{fullShare} xs m c) ∗ (((c : Thread nD τ).loc main_arg1) ↦{fullShare} ws m c))

/-- What a device starts from. -/
def start (c : Dev nD) : sProp 𝕄 := iprop(∃ K, known (xs m) (ws m) K ∗ dealt (xs m) (ws m) c)
def Φ₀ (c : Dev nD) : sProp 𝕄 := iprop(start m c ∗ scratch c)
/-- What it ends with. -/
def Φ₁ (c : Dev nD) : sProp 𝕄 :=
  iprop((bigSep Finset.univ fun n : Fin 39 => semVal (kcell (c, n)) 0) ∗ scratch c ∗ args m c)

def dats (_ : Fin 1) (c : Dev nD) : Dat τ (Elt F) Unit ℕ UU ℕ cfg0 c where
  A w := m ((cfg0.win w).arr.view.loc (c : Thread nD τ))
  after w _ := match w with
    | ⟨0, _⟩ => outV (xs m) (ws m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- From the start, with its buffers whole, the body runs to its end. -/
theorem body_run (K : Dev nD × Fin 39 → ℕ) (c : Dev nD) :
    iprop(known (xs m) (ws m) K ∗ dealt (xs m) (ws m) c ∗ scratch c ∗ owing c (O₀ c) ∗ whole (F := F) c cc0_stg0_0)
      ⊢ wp frame (wpE (defs₀ (F := F)) 𝒱₀ (c : Thread nD τ) none) Set.univ (run (F := F) c)
          (fun _ => iprop(Φ₁ m c ∗ owing c 0 ∗ (((c : Thread nD τ).loc cc0_stg0_0) ↦{fullShare} outV (xs m) (ws m) c))) := by
  have hstep := (Step.frame (R := unused (F := F) c) (run_step (X := xs m) (W := ws m) (K := K) (c := c))).entails
  have hend : iprop(known (xs m) (ws m) K ∗ bodyEnd (xs m) (ws m) c ∗ unused (F := F) c)
      ⊢ iprop(|={Set.univ}=> (Φ₁ m c ∗ owing c 0 ∗ (((c : Thread nD τ).loc cc0_stg0_0) ↦{fullShare} outV (xs m) (ws m) c))) := by
    iintro ⟨#HK, H⟩
    ihave H := (end_body (xs m) (ws m) c) $$ H
    icases H with ⟨⟨Hp, Hs⟩, Ha, Ho, Hout⟩
    imod (close_all (xs m) (ws m) K c) $$ [Hp] with Hz
    · isplitr; · iexact HK
      iexact Hp
    imodintro
    unfold Φ₁ args
    isplitl [Hz Hs Ha]
    · isplitl [Hz]; · iexact Hz
      isplitl [Hs]; · iexact Hs
      iexact Ha
    isplitl [Ho] <;> iassumption
  iintro ⟨#HK, H⟩
  ihave H := (start_body (xs m) (ws m) K c) $$ [H]
  · isplitr; · iexact HK
    iexact H
  ihave Hw := hstep $$ [H]
  · isplitr; · iexact HK
    iexact H
  iapply (wp_fupd _ _ _)
  iapply (wp_wand _ _ _) $$ Hw
  iintro %_ H
  iapply hend
  isplitr; · iexact HK
  iexact H

/-- The buffer of window 0 at some contents. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem onBufs_run (c : Dev nD) (Q : PUnit → sProp 𝕄) :
    wp frame (wpE (defs₀ (F := F)) 𝒱₀ (c : Thread nD τ) none) Set.univ (run (F := F) c) Q
      ⊢ wp frame (wpE (defs₀ (F := F)) 𝒱₀ (c : Thread nD τ) none) Set.univ (onBufs (cc0_body (F := F))) Q := by
  rw [body_eq]
  unfold body
  simp only [Prog.lift, Prog.bind_op, Prog.bind_ret, wp_deviceId]
  exact BI.Entails.refl _

/-- The obligation of the body on device `c`. -/
theorem body_obligation (c : Dev nD) : BodyObligation (dats (F := F) m 0 c) (defs₀ (F := F)) 𝒱₀ () Set.univ := fun t => by
  rw [fin_N0 t, bigSep_W0, bigSep_W0]
  simp only [owns_whole]
  have h : iprop(Φ₀ m c ∗ (dats m 0 c).owesAt () t0_0.castSucc ∗ (∃ d, stg c ((dats m 0 c).before (0 : Fin 1) t0_0 d)))
      ⊢ wp frame (wpE (defs₀ (F := F)) 𝒱₀ (c : Thread nD τ) none) Set.univ (run (F := F) c)
          (fun _ => iprop(Φ₁ m c ∗ (dats m 0 c).owesAt () t0_0.succ ∗ stg c (outV (xs m) (ws m) c))) := by
    unfold Φ₀ start Dat.owesAt Pipeline.owesWithin
    rw [show (dats m 0 c).owed t0_0.castSucc = O₀ c from rfl, show (dats m 0 c).owed t0_0.succ = 0 from rfl]
    iintro ⟨⟨⟨%K, #HK, Hd⟩, Hs⟩, ⟨%W, -, Ho⟩, ⟨%d, %f, -, Hout⟩⟩
    ihave Hw := (body_run m K c) $$ [Hd Hs Ho Hout]
    · isplitr; · iexact HK
      isplitl [Hd]; · iexact Hd
      isplitl [Hs]; · iexact Hs
      isplitl [Ho]
      · unfold owing; iexists W; iexact Ho
      unfold whole; iexists f; iexact Hout
    iapply (wp_wand _ _ _) $$ Hw
    iintro %_ ⟨H1, Ho, Hout⟩
    isplitl [H1]; · iexact H1
    isplitl [Ho]
    · unfold owing
      icases Ho with ⟨%W', Ho⟩
      iexists W'
      isplitr; · ipureintro; exact fun _ _ => Or.inl trivial
      iexact Ho
    iexists _; isplitr; · (ipureintro; rfl)
    iexact Hout
  exact h.trans (onBufs_run c _)

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) (ws m) c)
      ⊢ iprop(|={Set.univ}=> (start m c ∗ emp)) := by
  rw [Pipeline.unscopedRestP_none, unscopedRest0_eq]
  unfold start G' known marks dealt
  iintro ⟨⟨Hx, Hw⟩, Hlev, Hcr, -, ⟨%K, HI, HR⟩, Hp, Ht⟩
  ihave Hcr := (creds c) $$ Hcr
  imodintro
  isplitl
  · iexists K
    isplitl [HI HR Hlev]
    · isplitl [HI]; · iexact HI
      isplitl [HR]; · iexact HR
      iexact Hlev
    isplitl [Hp]; · iexact Hp
    isplitl [Ht]; · iexact Ht
    isplitl [Hcr]; · iexact Hcr
    isplitl [Hx]; · iexact Hx
    iexact Hw
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch whole
  iintro ⟨Hs, -, Hr⟩
  isplitl [Hs]; · iexact Hs
  iexact Hr

theorem leave (c : Dev nD) :
    (dats m 0 c).Φ (Fin.last cfg0.N)
      ⊢ iprop((unscopedSems0 c ∗ args m c) ∗ Pipeline.ownSems0 osem c ∗ Pipeline.scopedRest cfg0.spec c) := by
  rw [show (dats m 0 c).Φ (Fin.last cfg0.N) = Φ₁ m c from rfl, scopedRest0_eq]
  unfold Φ₁ scratch whole
  iintro ⟨Hz, Hr, Ha⟩
  ihave Hz := (Entails.of_eq (sems_eq c).symm) $$ Hz
  icases Hz with ⟨Ho, Hu⟩
  isplitl [Hu Ha]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t => by
    have hO : ∀ g u, 0 < O₀ c g u → g.1.2 = .tc ∧ 0 < lv g u := by
      intro g u hg
      unfold O₀ at hg
      rw [Pi.add_apply, Finsupp.add_apply] at hg
      rcases Nat.eq_zero_or_pos (owedS c 1 g u) with h | h
      · rw [h, Nat.zero_add] at hg
        exact ⟨(owedB_pos hg).1, by rw [(owedB_pos hg).2]; decide⟩
      · exact ⟨(owedS_pos h).1, by rw [(owedS_pos h).2]; decide⟩
    have h0 : (levAts L lv : sProp 𝕄) ⊢ MayWait (c : Thread nD τ) (.dma 0) () (O₀ c) := mayWait c _ _ hO
    rcases t with ⟨_ | _, ht⟩
    · fin_cases w; fin_cases s; exact h0
    · fin_cases w; fin_cases s; exact mayWait_none c _

/-! ## The run -/

/-- The result of device `c` at the end. -/
def finalOut (c : Dev nD) : Buf (Elt F) ((c : Thread nD τ).loc main_v1) := (dats m 0 c).arrAt (0 : Fin 1) cfg0.N

/-- From any memory with all semaphores at zero, every run of the program ends, the results as computed, the
    arguments as they were, and every semaphore at zero. -/
theorem run_main : θ_run defs (onTc (τ := τ) (main (F := F))) (s₀ m ρ) (fun r =>
    (∀ c : Dev nD, r.2.mem ((c : Thread nD τ).loc main_v1) = finalOut m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xs m) (ws m)) (G' := G' (xs m) (ws m)) (u₀ := u₀)
    (hu₀ := by
      unfold u₀
      iintro Hu
      ihave H := (ownU_pair _ _) $$ Hu
      icases H with ⟨HP, HX⟩
      imod (fund_cells (xs m) (ws m)) $$ HX with HG
      imodintro
      isplitl [HP] <;> iassumption)
    (hglob := glob (xs m) (ws m))
    (hA := fun _ _ => rfl) (hpf := fun _ k => k.elim0)
    (X := start m) (Y := fun c => iprop(unscopedSems0 c ∗ args m c)) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      unfold args
      iintro ⟨⟨Hu, Hx, Hw⟩, -, HSI⟩
      icombine HSI Hx gives %hx
      icombine HSI Hw gives %hw
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ hx, Buf.eq_of_forall_mem_univ hw⟩
      iexact HSI)
    (hQ := fun _ h hs => ⟨fun c => ⟨(h c).1 (0 : Fin 1), (h c).2.2.2⟩, sem_eq_zero hs fun c => (h c).2.2.1⟩)

end Cert.KernelIdeal.A2A
-- ==== Proof.Frames.lean ====
/-
The frames: all three programs run, their arguments end unchanged and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.Frames

open Idealize.ShloMosaic Idealize.SL.Sem

/-- The kernel read over the reals. -/
theorem kernelIdeal : Cert.quiescent_KernelIdeal := fun m ρ _ =>
  (θ_run Cert.KernelIdeal.defs _ _).mono (fun _ h => ⟨fun c => (h.1 c).2, h.2⟩) (Cert.KernelIdeal.A2A.run_main (F := Ideal) m ρ)

section Same
variable {F : FTy → Type} [FloatOps F] [hK : Cert.Kernel.Facts] [hI : Cert.KernelIdeal.Facts]

/-- The two kernels are one text: their tables of bodies -/
theorem bodies_same : @Cert.Kernel.defs₀ F _ hK = @Cert.KernelIdeal.defs₀ F _ hI := by
  unfold Cert.Kernel.defs₀ Cert.KernelIdeal.defs₀
  refine congrArg Defs.onTc (funext fun l => funext fun a => ?_)
  match l, a with
  | ⟨0, _⟩, (t, s) => rfl
/-- and the tables of all their procedures. -/
theorem defs_same : @Cert.Kernel.defs F _ hK = @Cert.KernelIdeal.defs F _ hI :=
  congrArg (Pipeline.defs (@Cert.KernelIdeal.pcfgs F hI)) bodies_same

end Same

/-- The kernel on floats: its text is that of the kernel read over the reals, whose run is shown for any floats. -/
theorem kernel : Cert.quiescent_Kernel := fun m ρ _ => by
  rw [defs_same (F := Bits)]
  have h := (θ_run (Cert.KernelIdeal.defs (F := Bits)) _ _).mono (fun r h => (⟨fun c => (h.1 c).2, h.2⟩ :
    (∀ c : Dev Cert.KernelIdeal.nD,
      r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0)) (Cert.KernelIdeal.A2A.run_main (F := Bits) m ρ)
  exact h

/-- The reference, which has no semaphore. -/
theorem referenceIdeal : Cert.quiescent_ReferenceIdeal := fun m ρ _ =>
  (θ_run Cert.ReferenceIdeal.defs _ _).mono
    (fun _ h => ⟨fun c => (h c).2, sem_eq_zero_of_no_sems (by decide) _⟩) (Cert.ReferenceIdeal.Value.run m ρ)

end Cert.Frames
-- ==== Proof.Value.lean ====
/-
What the kernel computes when its numbers are extended reals. The rounding of a block is then the identity,
so a device receives the other devices' blocks of `x` as they are, and each half of its result is the sum,
over the sixteen steps, of the products of the entries, or zero where that is less.
-/
module

public import proofs.«01_k».proof.Proof.Launch
public import Idealize.ShloMosaic.Lib.Pipeline.Value
public import Idealize.ShloMosaic.Lib.MatmulPlain
public import Idealize.ShloMosaic.PureOps.Ideal.Laws

@[expose] public section

noncomputable section

namespace Cert.KernelIdeal.A2A

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## Entries by their numbers -/

/-- The entry of a matrix in row `i` and column `j`, zero outside it. -/
def entry {a b : ℕ} (A : (⟨2, ![a, b]⟩ : Shape).Idx → EReal) (i j : ℕ) : EReal :=
  if h : i < a ∧ j < b then A (ix2 ⟨i, h.1⟩ ⟨j, h.2⟩) else 0
theorem entry_of {a b : ℕ} (A : (⟨2, ![a, b]⟩ : Shape).Idx → EReal) (x : (⟨2, ![a, b]⟩ : Shape).Idx) (i j : ℕ)
    (hi : (x 0).val = i) (hj : (x 1).val = j) : A x = entry A i j := by
  subst hi hj
  have h0 : (x 0).val < a := (x 0).isLt
  have h1 : (x 1).val < b := (x 1).isLt
  unfold entry
  rw [dif_pos ⟨h0, h1⟩]
  congr 1
  funext d
  fin_cases d <;> rfl

/-! ## The blocks -/

/-- A block of one read as a matrix is the matrix. -/
theorem cast_unsq (Y : FVec Ideal S512x512 .f32) (h : S1x512x512.ShapeCasts S512x512) : shapeCast S512x512 (unsq Y) h = Y :=
  funext fun j => congrArg Y (Equiv.symm_apply_apply _ j)
theorem cast_unsq_bf16 (Y : FVec Ideal S512x512 .bf16) (h : S1x512x512.ShapeCasts S512x512) : shapeCast S512x512 (unsq Y) h = Y :=
  funext fun j => congrArg Y (Equiv.symm_apply_apply _ j)
theorem cast_unsqW (Y : FVec Ideal S512x2048 .f32) (h : S1x512x2048.ShapeCasts S512x2048) : shapeCast S512x2048 (unsqW Y) h = Y :=
  funext fun j => congrArg Y (Equiv.symm_apply_apply _ j)

/-- The rounded block is the block. -/
theorem sBlk_eq (X : XArr Ideal) (c : Dev nD) (j : ℕ) (x : S512x512.Idx) : sBlk X c j x = xBlk X c j x := by
  unfold sBlk k0_pay1
  dsimp only
  rw [cast_unsq]
  show shapeCast S1x512x512 (fun i => (xBlk X c j i : EReal)) shapeCasts_S512x512_S1x512x512 (Shape.reshapeEquiv _ x) = _
  exact shapeCast_apply _ _ _ x (Shape.rowMajor_reshapeEquiv _ _).symm

/-- Row `a`, column `k` of the block a device has for step `d`: the sender is `d` places back, the row is
    in this device's row block. -/
theorem rBlk_at (X : XArr Ideal) (c : Dev nD) (d : ℕ) (hd : d < 16) (x : S512x512.Idx) :
    rBlk X c d x = entry (X (peer c (16 - d))) (512 * c.val + (x 0).val) (x 1).val := by
  have hc : c.val < 16 := c.isLt
  unfold rBlk
  rw [sBlk_eq]
  refine entry_of (X (peer c (16 - d))) ((xV (peer c (16 - d)) d).view.emb x) _ _ ?_ ?_
  · show k0_off2 (peer c (16 - d)) (BitVec.ofNat 32 (d % 16)) 0 + 1 * (x 0).val = _
    rw [k0_off2_eq (peer c (16 - d)) ⟨d % 16, Nat.mod_lt _ (by decide)⟩]
    show 512 * (((peer c (16 - d)).val + d % 16) % 16) + 1 * (x 0).val = _
    rw [peer_val]; omega
  · show k0_off2 (peer c (16 - d)) (BitVec.ofNat 32 (d % 16)) 1 + 1 * (x 1).val = _
    rw [k0_off2_eq (peer c (16 - d)) ⟨d % 16, Nat.mod_lt _ (by decide)⟩]
    show 0 + 1 * (x 1).val = _
    omega

/-- Row `k`, column `b` of the weights of half `h` of step `d`. -/
theorem wBlk_at (W : WArr Ideal) (c : Dev nD) (d h : ℕ) (hd : d < 16) (hh : h < 2) (x : S512x2048.Idx) :
    wBlk W c (2 * d + h) x = entry (W c) (512 * ((c.val + (16 - d)) % 16) + (x 0).val) (2048 * h + (x 1).val) := by
  have hc : c.val < 16 := c.isLt
  refine entry_of (W c) ((wV c (2 * d + h)).view.emb x) _ _ ?_ ?_
  · show wOff c (2 * d + h) 0 + 1 * (x 0).val = _
    rw [wOff_eq]
    show 512 * ((c.val + (15 - (2 * d + h) / 2 % 16) + 1) % 16) + 1 * (x 0).val = _
    omega
  · show wOff c (2 * d + h) 1 + 1 * (x 1).val = _
    rw [wOff_eq]
    show 2048 * ((2 * d + h) % 2) + 1 * (x 1).val = _
    omega

/-! ## A step -/

/-- The product of step `d` in row `a` and column `b`. -/
def term (X : XArr Ideal) (W : WArr Ideal) (c : Dev nD) (a b d : ℕ) : EReal :=
  ∑ k : Fin 512, entry (X (peer c (16 - d))) (512 * c.val + a) k.val * entry (W c) (512 * ((c.val + (16 - d)) % 16) + k.val) b

theorem prod_at (X : XArr Ideal) (W : WArr Ideal) (c : Dev nD) (d h : ℕ) (hd : d < 16) (hh : h < 2) (x : S512x2048.Idx) :
    prod (unsq (rBlk X c d)) (unsqW (wBlk W c (2 * d + h))) x = term X W c (x 0).val (2048 * h + (x 1).val) d := by
  unfold prod k0_pay17
  dsimp only
  rw [cast_unsqW, cast_unsq_bf16]
  have hx : x = ix2 (x 0) (x 1) := by funext a; fin_cases a <;> rfl
  rw [hx]
  refine (Ideal.matmul_plain_apply (M := 512) (K := 512) (N := 2048) none (rBlk X c d) (wBlk W c (2 * d + h)) _ (x 0) (x 1)).trans ?_
  show Ideal.ofBits .f32 0x00000000#32 + _ = _
  rw [Ideal.ofBits_zero_f32, zero_add]
  unfold term
  refine Finset.sum_congr rfl fun k _ => ?_
  rw [rBlk_at X c d hd, wBlk_at W c d h hd hh]

/-- Adding a step's product. -/
theorem accum_at (A : Vec Ideal S1x512x512 .bf16) (B : Vec Ideal S1x512x2048 .f32) (o : Vec Ideal S512x2048 .f32) (x : S512x2048.Idx) :
    accum A B o x = (o x + prod A B x : EReal) := by
  unfold accum k0_pay19
  rw [shapeCast_self]
  rfl
/-- The last step's. -/
theorem accumRelu_at (A : Vec Ideal S1x512x512 .bf16) (B : Vec Ideal S1x512x2048 .f32) (o : Vec Ideal S512x2048 .f32) (x : S512x2048.Idx) :
    accumRelu A B o x = max (o x + prod A B x : EReal) 0 := by
  unfold accumRelu k0_pay56
  rw [shapeCast_self]
  show max (o x + prod A B x : EReal) (Ideal.ofBits .f32 0x00000000#32) = _
  rw [Ideal.ofBits_zero_f32]

/-! ## The sum -/

/-- Before the last step a half holds the sum of the products so far; -/
theorem halfV_at (X : XArr Ideal) (W : WArr Ideal) (c : Dev nD) (h : ℕ) (hh : h < 2) (x : S512x2048.Idx) :
    ∀ d < 15, halfV X W c h d x = ∑ e ∈ Finset.range (d + 1), term X W c (x 0).val (2048 * h + (x 1).val) e
  | 0, _ => by
    rw [Finset.sum_range_one, ← prod_at X W c 0 h (by decide) hh x, Nat.mul_zero, Nat.zero_add]; rfl
  | d + 1, hd => by
    rw [halfV_succ, Finset.sum_range_succ, ← halfV_at X W c h hh x d (by omega), ← prod_at X W c (d + 1) h (by omega) hh x]
    unfold pay
    rw [if_neg (by omega), if_neg (by omega), accum_at]
/-- after it, the sum of all sixteen, or zero. -/
theorem halfV_end (X : XArr Ideal) (W : WArr Ideal) (c : Dev nD) (h : ℕ) (hh : h < 2) (x : S512x2048.Idx) :
    halfV X W c h 15 x = max (∑ e ∈ Finset.range 16, term X W c (x 0).val (2048 * h + (x 1).val) e) 0 := by
  rw [Finset.sum_range_succ, ← halfV_at X W c h hh x 14 (by decide), ← prod_at X W c 15 h (by decide) hh x]
  rw [show halfV X W c h 15 = pay 15 (unsq (rBlk X c 15)) (unsqW (wBlk W c (2 * 15 + h))) (halfV X W c h 14) from rfl]
  unfold pay
  rw [if_neg (by decide), if_pos rfl, accumRelu_at]

/-- The result's block, entry by entry. -/
theorem outV_at (X : XArr Ideal) (W : WArr Ideal) (c : Dev nD) (x : S512x4096.Idx) :
    outV X W c x = max (∑ e ∈ Finset.range 16, term X W c (x 0).val (x 1).val e) 0 := by
  have h1 : (x 1).val < 4096 := (x 1).isLt
  unfold outV
  rw [halfV_end X W c _ (by omega)]
  show max (∑ e ∈ Finset.range 16, term X W c (x 0).val (2048 * ((x 1).val / 2048) + (x 1).val % 2048) e) 0 = _
  rw [Nat.div_add_mod]

/-! ## The result -/

variable {F : FTy → Type} [FloatOps F]

/-- The result of the run is the block the kernel left. -/
theorem finalOut_eq (m : (ℓ : Loc nD τ sig) → Buf (Elt F) ℓ) (c : Dev nD) : finalOut m c = outV (xs m) (ws m) c := by
  unfold finalOut
  refine (dats m 0 c).arrAt_eq_of_cover (0 : Fin 1) (outV (xs m) (ws m) c) ?_ ?_
  · intro t _
    rw [fin_N0 t]
    have hz : (fun a => win0_0.index t0_0 a * main_v1.ty.shape.size a) = fun _ => 0 := funext fun a => by fin_cases a <;> decide
    exact (Memref.read_access_unit_zero (Elt F) main_v1 hz (fun a => by rw [congrFun hz a]; simp) (outV (xs m) (ws m) c)).symm
  · intro (i : S512x4096.Idx)
    refine ⟨t0_0, flush0_0 _, ?_⟩
    show i ∈ ((View.whole main_v1).slice (win0_0.rect t0_0)).set
    rw [View.set_slice_whole, Rect.mem_set_unit]
    have h0 : (i 0).val < 512 := (i 0).isLt
    have h1 : (i 1).val < 4096 := (i 1).isLt
    have e : ∀ a, win0_0.index t0_0 a * win0_0.size a = 0 := by decide +kernel
    have e0 : win0_0.xsize (grid0.coords t0_0) 0 = 512 := by decide +kernel
    have e1 : win0_0.xsize (grid0.coords t0_0) 1 = 4096 := by decide +kernel
    intro a
    match a with
    | ⟨0, _⟩ =>
      show win0_0.index t0_0 0 * win0_0.size 0 ≤ (i 0).val ∧ (i 0).val < win0_0.index t0_0 0 * win0_0.size 0 + win0_0.xsize (grid0.coords t0_0) 0
      rw [e, e0]; omega
    | ⟨1, _⟩ =>
      show win0_0.index t0_0 1 * win0_0.size 1 ≤ (i 1).val ∧ (i 1).val < win0_0.index t0_0 1 * win0_0.size 1 + win0_0.xsize (grid0.coords t0_0) 1
      rw [e, e1]; omega

end Cert.KernelIdeal.A2A
-- ==== Proof.Algebraic.lean ====
/-
The kernel's results against the reference's, over the extended reals. The sixteen sums of 512 products
each are the one sum of 8192 products of the whole matrices, taken block by block in the order of the
devices the blocks come from.
-/
module

public import proofs.«01_k».proof.Proof.Value
public import proofs.«01_k».proof.Proof.Gen.ReferenceIdeal.Run
public import proofs.«01_k».proof.Defs
public import proofs.«01_k».proof.Proof.Gen.KernelIdeal
public import proofs.«01_k».proof.Proof.Gen.ReferenceIdeal
public import Idealize.ShloMosaic.Lib.Layout
public import Idealize.ShloMosaic.Lib.StackMember

@[expose] public section

set_option maxRecDepth 16384

noncomputable section

namespace Cert.Algebraic

open Idealize.ShloMosaic Idealize.ShloMosaic.TcCoe Idealize.ShloMosaic.ValueIdx Idealize.SL.Sem
open Cert.KernelIdeal.A2A (entry entry_of)
open scoped BigOperators

/-! ## The sum in blocks -/

/-- A sum over 8192 numbers is the sums over its sixteen blocks. -/
theorem sum_blocks (f : ℕ → EReal) : ∑ s : Fin 16, ∑ k : Fin 512, f (512 * s.val + k.val) = ∑ q : Fin 8192, f q.val := by
  rw [← Fintype.sum_prod_type' (fun (s : Fin 16) (k : Fin 512) => f (512 * s.val + k.val)),
    ← Equiv.sum_comp (finProdFinEquiv (m := 16) (n := 512)) (fun q => f q.val)]
  exact Finset.sum_congr rfl fun p _ => congrArg f (Nat.add_comm _ _)

/-- The same, the blocks taken from block `c` backwards around the ring. -/
theorem sum_ring (c : ℕ) (hc : c < 16) (f : ℕ → EReal) :
    ∑ e ∈ Finset.range 16, ∑ k : Fin 512, f (512 * ((c + (16 - e)) % 16) + k.val) = ∑ q : Fin 8192, f q.val := by
  rw [← sum_blocks, ← Finset.sum_range (fun s => ∑ k : Fin 512, f (512 * s + k.val))]
  refine Finset.sum_nbij' (fun e => (c + (16 - e)) % 16) (fun s => (c + (16 - s)) % 16) ?_ ?_ ?_ ?_ ?_
  · intro e _; exact Finset.mem_range.mpr (Nat.mod_lt _ (by decide))
  · intro s _; exact Finset.mem_range.mpr (Nat.mod_lt _ (by decide))
  · intro e he; have h := Finset.mem_range.mp he; show (c + (16 - (c + (16 - e)) % 16)) % 16 = e; omega
  · intro s hs; have h := Finset.mem_range.mp hs; show (c + (16 - (c + (16 - s)) % 16)) % 16 = s; omega
  · intro e _; rfl

/-! ## The reference -/

/-- The reference's result: the product of the whole matrices, or zero where that is less. -/
abbrev refOut (A : FVec Ideal Cert.ReferenceIdeal.S8192x8192 .f32) (B : FVec Ideal Cert.ReferenceIdeal.S8192x4096 .f32) :
    FVec Ideal Cert.ReferenceIdeal.S8192x4096 .f32 :=
  maximumf (Host.dotGeneral Cert.ReferenceIdeal.dot_S8192x8192_S8192x4096_S8192x4096_1_0_0_1_n_n none A B)
    (broadcastInDim Cert.ReferenceIdeal.S8192x4096 ![] Cert.ReferenceIdeal.Gen.facts.bcast_S_S8192x4096
      (constant Cert.ReferenceIdeal.S_ .f32 0x00000000#32))

/-- Its entry in row `i` and column `j`. -/
theorem refOut_at (A : FVec Ideal Cert.ReferenceIdeal.S8192x8192 .f32) (B : FVec Ideal Cert.ReferenceIdeal.S8192x4096 .f32)
    (x : Cert.ReferenceIdeal.S8192x4096.Idx) :
    refOut A B x = max (∑ q : Fin 8192, entry A (x 0).val q.val * entry B q.val (x 1).val) 0 := by
  have hx : x = ix2 (x 0) (x 1) := by funext a; fin_cases a <;> rfl
  have hs : Host.dotGeneral (DotDims.plain 8192 8192 4096) none A B x = (∑ q : Fin 8192, entry A (x 0).val q.val * entry B q.val (x 1).val : EReal) := by
    conv_lhs => rw [hx]
    refine (Idealize.ShloMosaic.StackMember.dotGeneral_plain_apply (m := 8192) (k := 8192) (n := 4096) none A B (x 0) (x 1)).trans ?_
    refine Finset.sum_congr rfl fun q _ => ?_
    rw [entry_of A (ix2 (x 0) q) (x 0).val q.val rfl rfl, entry_of B (ix2 q (x 1)) q.val (x 1).val rfl rfl]
  show max (Host.dotGeneral (DotDims.plain 8192 8192 4096) none A B x : EReal) (Ideal.ofBits .f32 0x00000000#32) = _
  rw [Ideal.ofBits_zero_f32, hs]

/-! ## The kernel -/

/-- An entry of the shard of device `p` is the whole matrix's, its column counted from the shard's first. -/
theorem entry_shard (A : FVec Ideal Cert.ReferenceIdeal.S8192x8192 .f32) (p : Fin 16) (i k : ℕ) (hi : i < 8192) (hk : k < 512) :
    entry (Layout.block ⟨2, ![8192, 512]⟩ ⟨2, ![8192, 8192]⟩ 1 16 p A) i k = entry A i (512 * p.val + k) := by
  have hp := p.isLt
  unfold entry
  rw [dif_pos ⟨hi, hk⟩, dif_pos ⟨hi, by omega⟩, Layout.block_apply]
  congr 1
  funext a
  apply Fin.ext
  match a with
  | ⟨0, _⟩ => rfl
  | ⟨1, _⟩ => show p.val * 512 + k = 512 * p.val + k; omega

/-- The sixteen steps' products in row `i` of device `c` add up to the whole matrices' product there. -/
theorem sum_term (X : Cert.KernelIdeal.A2A.XArr Ideal) (W : Cert.KernelIdeal.A2A.WArr Ideal)
    (A : FVec Ideal Cert.ReferenceIdeal.S8192x8192 .f32) (B : FVec Ideal Cert.ReferenceIdeal.S8192x4096 .f32)
    (hX : ∀ c, X c = Layout.block ⟨2, ![8192, 512]⟩ ⟨2, ![8192, 8192]⟩ 1 16 c A) (hW : ∀ c, W c = B) (c : Dev Cert.KernelIdeal.nD)
    (i : ℕ) (hi : i < 512) (j : ℕ) :
    ∑ e ∈ Finset.range 16, Cert.KernelIdeal.A2A.term X W c i j e
      = ∑ q : Fin 8192, entry A (512 * c.val + i) q.val * entry B q.val j := by
  have hc : c.val < 16 := c.isLt
  rw [← sum_ring c.val hc (fun q => entry A (512 * c.val + i) q * entry B q j)]
  refine Finset.sum_congr rfl fun e _ => ?_
  unfold Cert.KernelIdeal.A2A.term
  refine Finset.sum_congr rfl fun k _ => ?_
  rw [hX, hW, entry_shard A _ _ _ (by omega) k.isLt, Cert.KernelIdeal.A2A.peer_val]

/-- Device `c`'s block of the kernel's result is its block of the reference's. -/
theorem out_eq (X : Cert.KernelIdeal.A2A.XArr Ideal) (W : Cert.KernelIdeal.A2A.WArr Ideal)
    (A : FVec Ideal Cert.ReferenceIdeal.S8192x8192 .f32) (B : FVec Ideal Cert.ReferenceIdeal.S8192x4096 .f32)
    (hX : ∀ c, X c = Layout.block ⟨2, ![8192, 512]⟩ ⟨2, ![8192, 8192]⟩ 1 16 c A) (hW : ∀ c, W c = B) (c : Dev Cert.KernelIdeal.nD) :
    Cert.KernelIdeal.A2A.outV X W c = Layout.block ⟨2, ![512, 4096]⟩ ⟨2, ![8192, 4096]⟩ 0 16 c (refOut A B) := by
  have hc : c.val < 16 := c.isLt
  funext (x : Cert.KernelIdeal.S512x4096.Idx)
  have h0 : (x 0).val < 512 := (x 0).isLt
  refine (Cert.KernelIdeal.A2A.outV_at X W c x).trans ?_
  rw [sum_term X W A B hX hW c _ h0, Layout.block_apply, refOut_at, Nat.mul_comm 512]
  rfl

/-! ## The claim -/

/-- Where the devices hold the parts of the reference's arguments, they end holding the parts of its result. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ?_) (Cert.KernelIdeal.A2A.run_main m g)
    refine ⟨((h.1 c).1.trans (Cert.KernelIdeal.A2A.finalOut_eq m c)).trans ?_, (h.1 c).2⟩
    exact out_eq _ _ _ _ (fun c => (hm c).1) (fun c => (hm c).2) c
  · exact (θ_run _ _ _).mono (fun r h => h 0) (Cert.ReferenceIdeal.Value.run m' g')

end Cert.Algebraic
-- ==== Proof.lean ====
/-
The claims of the certificate, assembled from the modules under Proof/.

The kernel runs on 16 devices. Each stages its blocks of `x` by local copies, sends 15 of them to the other
devices, and multiplies the 16 blocks it holds then by the blocks of `w`, which it copies in two halves each.
  Steps   the kernel's text as six loops of steps
  Sched   the semaphores' rounds, who pays each and what with
  Slots, Copies, Stage, Comp, Body   the steps, and the run of one device
  Split, Cells, Ends   buffers and semaphores dealt out at the start and collected at the end
  Launch  the run of all devices
  Frames  the frames
  Value   what the run leaves, over the extended reals
  Algebraic   the same against the reference's result
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel, the kernel over the extended reals and the reference run to their ends; and the kernel's results
    over the extended reals are the parts of the reference's. -/
theorem claim : Cert.Claim :=
  ⟨Cert.Kernel.Gen.facts, Cert.KernelIdeal.Gen.facts, Cert.ReferenceIdeal.Gen.facts,
    Cert.Frames.kernel, Cert.Frames.kernelIdeal, Cert.Frames.referenceIdeal, trivial, Cert.Algebraic.algebraic⟩

end Cert.Proof

end
